-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_boxes [hPre_proper_boxes : Cert.Pre_proper_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_boxes [hPre_proper_boxes : Cert.Pre_proper_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_proper_boxes [hKernelIdeal : Cert.KernelIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_proper_boxes [hReferenceIdeal : Cert.ReferenceIdeal.Facts] [hPre_proper_boxes : Cert.Pre_proper_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_proper_boxes [hKernelIdeal : Cert.KernelIdeal.Facts] [hReferenceIdeal : Cert.ReferenceIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_proper_boxes : Cert.Pre_proper_boxes.Facts),
    quiescent_Kernel (hKernel := hKernel)
    ∧ quiescent_KernelIdeal (hKernelIdeal := hKernelIdeal)
    ∧ quiescent_KernelIdeal_pre_proper_boxes (hKernelIdeal := hKernelIdeal) (hPre_proper_boxes := hPre_proper_boxes)
    ∧ quiescent_ReferenceIdeal (hReferenceIdeal := hReferenceIdeal)
    ∧ quiescent_ReferenceIdeal_pre_proper_boxes (hReferenceIdeal := hReferenceIdeal) (hPre_proper_boxes := hPre_proper_boxes)
    ∧ preserves_Kernel_KernelIdeal
    ∧ algebraic_KernelIdeal_ReferenceIdeal_pre_proper_boxes (hKernelIdeal := hKernelIdeal) (hReferenceIdeal := hReferenceIdeal) (hPre_proper_boxes := hPre_proper_boxes)
-- ==== Pre_proper_boxes.lean ====
abbrev S20000x4 : Shape := ⟨2, ![20000, 4]⟩
abbrev S20000 : Shape := ⟨1, ![20000]⟩
abbrev S_ : Shape := ⟨0, ![]⟩

class Facts : Prop where
  bcast_S_S20000x4 : S_.BroadcastsInDim S20000x4 (![] : Fin 0 → Fin S20000x4.rank)
  reducesTo_S20000x4_S_d0_1 : S20000x4.ReducesTo [0, 1] S_
  h_S_ : 0 < S_.numel

variable [Facts]

def fn {F : FTy → Type} [FloatOps F] (main_arg0 : FVec F S20000x4 .f32) (main_arg1 : FVec F S20000 .f32) (main_arg2 : IVec S20000 32) : IVec S_ 1 :=
  let main_cst : FVec F S_ .f32 := constant S_ .f32 0x00000000#32
  let main_v0 : FVec F S20000x4 .f32 := broadcastInDim S20000x4 ![] bcast_S_S20000x4 main_cst
  let main_v1 : IVec S20000x4 1 := cmpf .oge main_arg0 main_v0
  let main_cst_0 : FVec F S_ .f32 := constant S_ .f32 0x7F800000#32
  let main_v2 : FVec F S20000x4 .f32 := broadcastInDim S20000x4 ![] bcast_S_S20000x4 main_cst_0
  let main_v3 : IVec S20000x4 1 := cmpf .olt main_arg0 main_v2
  let main_v4 : IVec S20000x4 1 := andi main_v1 main_v3
  let main_c : IVec S_ 1 := constantI S_ 1 1#1
  let main_v5 : IVec S_ 1 := (fun x v => Host.reduce IntOp.andi x v reducesTo_S20000x4_S_d0_1 h_S_) main_v4 main_c
  main_v5
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S480 : Shape := ⟨1, ![480]⟩
abbrev S20480 : Shape := ⟨1, ![20480]⟩
abbrev S40x512 : Shape := ⟨2, ![40, 512]⟩
abbrev S40x1 : Shape := ⟨2, ![40, 1]⟩
abbrev S40 : Shape := ⟨1, ![40]⟩
abbrev S1x40 : Shape := ⟨2, ![1, 40]⟩
abbrev S40x40 : Shape := ⟨2, ![40, 40]⟩
abbrev S512x512 : Shape := ⟨2, ![512, 512]⟩
abbrev S1x40x512 : Shape := ⟨3, ![1, 40, 512]⟩
abbrev S1 : Shape := ⟨1, ![1]⟩
abbrev S1x1x1 : Shape := ⟨3, ![1, 1, 1]⟩
abbrev S1x512 : Shape := ⟨2, ![1, 512]⟩
abbrev S512 : Shape := ⟨1, ![512]⟩
abbrev S512x1 : Shape := ⟨2, ![512, 1]⟩
abbrev S1x1 : Shape := ⟨2, ![1, 1]⟩

abbrev nBuf : Space → Nat
  | .hbm => 91
  | .vmem => 7
  | .smem => 1
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000, .i32⟩
  | .hbm, ⟨3, _⟩ => ⟨S20000, .i32⟩
  | .hbm, ⟨4, _⟩ => ⟨S20000, .f32⟩
  | .hbm, ⟨5, _⟩ => ⟨S20000, .f32⟩
  | .hbm, ⟨6, _⟩ => ⟨S20000, .i32⟩
  | .hbm, ⟨7, _⟩ => ⟨S20000, .f32⟩
  | .hbm, ⟨8, _⟩ => ⟨S20000x1, .f32⟩
  | .hbm, ⟨9, _⟩ => ⟨S20000, .f32⟩
  | .hbm, ⟨10, _⟩ => ⟨S20000x1, .f32⟩
  | .hbm, ⟨11, _⟩ => ⟨S20000, .f32⟩
  | .hbm, ⟨12, _⟩ => ⟨S20000x1, .f32⟩
  | .hbm, ⟨13, _⟩ => ⟨S20000, .f32⟩
  | .hbm, ⟨14, _⟩ => ⟨S20000x1, .f32⟩
  | .hbm, ⟨15, _⟩ => ⟨S20000, .f32⟩
  | .hbm, ⟨16, _⟩ => ⟨S20000, .i32⟩
  | .hbm, ⟨17, _⟩ => ⟨S20000, .f32⟩
  | .hbm, ⟨18, _⟩ => ⟨S20000, .f32⟩
  | .hbm, ⟨19, _⟩ => ⟨S20000, .f32⟩
  | .hbm, ⟨20, _⟩ => ⟨S20000, .f32⟩
  | .hbm, ⟨21, _⟩ => ⟨S20000, .f32⟩
  | .hbm, ⟨22, _⟩ => ⟨S20000, .i32⟩
  | .hbm, ⟨23, _⟩ => ⟨S_, .i32⟩
  | .hbm, ⟨24, _⟩ => ⟨S480, .i32⟩
  | .hbm, ⟨25, _⟩ => ⟨S20480, .i32⟩
  | .hbm, ⟨26, _⟩ => ⟨S40x512, .i32⟩
  | .hbm, ⟨27, _⟩ => ⟨S40x1, .i32⟩
  | .hbm, ⟨28, _⟩ => ⟨S40, .i32⟩
  | .hbm, ⟨29, _⟩ => ⟨S40x1, .i32⟩
  | .hbm, ⟨30, _⟩ => ⟨S40, .i32⟩
  | .hbm, ⟨31, _⟩ => ⟨S1x40, .i32⟩
  | .hbm, ⟨32, _⟩ => ⟨S40x1, .i32⟩
  | .hbm, ⟨33, _⟩ => ⟨S40x40, .i32⟩
  | .hbm, ⟨34, _⟩ => ⟨S40x40, .i32⟩
  | .hbm, ⟨35, _⟩ => ⟨S40x40, .i1⟩
  | .hbm, ⟨36, _⟩ => ⟨S40x40, .i32⟩
  | .hbm, ⟨37, _⟩ => ⟨S_, .i32⟩
  | .hbm, ⟨38, _⟩ => ⟨S40, .i32⟩
  | .hbm, ⟨39, _⟩ => ⟨S_, .f32⟩
  | .hbm, ⟨40, _⟩ => ⟨S480, .f32⟩
  | .hbm, ⟨41, _⟩ => ⟨S20480, .f32⟩
  | .hbm, ⟨42, _⟩ => ⟨S40x512, .f32⟩
  | .hbm, ⟨43, _⟩ => ⟨S20480, .f32⟩
  | .hbm, ⟨44, _⟩ => ⟨S40x512, .f32⟩
  | .hbm, ⟨45, _⟩ => ⟨S_, .f32⟩
  | .hbm, ⟨46, _⟩ => ⟨S480, .f32⟩
  | .hbm, ⟨47, _⟩ => ⟨S480, .f32⟩
  | .hbm, ⟨48, _⟩ => ⟨S20480, .f32⟩
  | .hbm, ⟨49, _⟩ => ⟨S40x512, .f32⟩
  | .hbm, ⟨50, _⟩ => ⟨S_, .f32⟩
  | .hbm, ⟨51, _⟩ => ⟨S480, .f32⟩
  | .hbm, ⟨52, _⟩ => ⟨S480, .f32⟩
  | .hbm, ⟨53, _⟩ => ⟨S20480, .f32⟩
  | .hbm, ⟨54, _⟩ => ⟨S40x512, .f32⟩
  | .hbm, ⟨55, _⟩ => ⟨S20480, .f32⟩
  | .hbm, ⟨56, _⟩ => ⟨S40x512, .f32⟩
  | .hbm, ⟨57, _⟩ => ⟨S40x512, .f32⟩
  | .hbm, ⟨58, _⟩ => ⟨S20480, .f32⟩
  | .hbm, ⟨59, _⟩ => ⟨S20000, .f32⟩
  | .hbm, ⟨60, _⟩ => ⟨S_, .f32⟩
  | .hbm, ⟨61, _⟩ => ⟨S20000, .f32⟩
  | .hbm, ⟨62, _⟩ => ⟨S_, .i32⟩
  | .hbm, ⟨63, _⟩ => ⟨S20000, .i32⟩
  | .hbm, ⟨64, _⟩ => ⟨S20000, .i1⟩
  | .hbm, ⟨65, _⟩ => ⟨S_, .i32⟩
  | .hbm, ⟨66, _⟩ => ⟨S20000, .i32⟩
  | .hbm, ⟨67, _⟩ => ⟨S20000, .i32⟩
  | .hbm, ⟨68, _⟩ => ⟨S20000, .i32⟩
  | .hbm, ⟨69, _⟩ => ⟨S20000x1, .i32⟩
  | .hbm, ⟨70, _⟩ => ⟨S20000, .f32⟩
  | .hbm, ⟨71, _⟩ => ⟨S_, .i32⟩
  | .hbm, ⟨72, _⟩ => ⟨S20000, .i32⟩
  | .hbm, ⟨73, _⟩ => ⟨S20000, .i1⟩
  | .hbm, ⟨74, _⟩ => ⟨S_, .i32⟩
  | .hbm, ⟨75, _⟩ => ⟨S20000, .i32⟩
  | .hbm, ⟨76, _⟩ => ⟨S20000, .i32⟩
  | .hbm, ⟨77, _⟩ => ⟨S20000, .i32⟩
  | .hbm, ⟨78, _⟩ => ⟨S20000x1, .i32⟩
  | .hbm, ⟨79, _⟩ => ⟨S20000, .f32⟩
  | .hbm, ⟨80, _⟩ => ⟨S_, .f32⟩
  | .hbm, ⟨81, _⟩ => ⟨S20000, .f32⟩
  | .hbm, ⟨82, _⟩ => ⟨S20000, .i1⟩
  | .hbm, ⟨83, _⟩ => ⟨S_, .i32⟩
  | .hbm, ⟨84, _⟩ => ⟨S_, .i32⟩
  | .hbm, ⟨85, _⟩ => ⟨S20000, .i32⟩
  | .hbm, ⟨86, _⟩ => ⟨S20000, .i32⟩
  | .hbm, ⟨87, _⟩ => ⟨S_, .f32⟩
  | .hbm, ⟨88, _⟩ => ⟨S_, .f32⟩
  | .hbm, ⟨89, _⟩ => ⟨S20000, .f32⟩
  | .hbm, ⟨90, _⟩ => ⟨S20000, .f32⟩
  | .local _ .vmem, ⟨0, _⟩ => ⟨S40x512, .f32⟩
  | .local _ .vmem, ⟨1, _⟩ => ⟨S40x512, .f32⟩
  | .local _ .vmem, ⟨2, _⟩ => ⟨S40x512, .f32⟩
  | .local _ .vmem, ⟨3, _⟩ => ⟨S40x512, .f32⟩
  | .local _ .vmem, ⟨4, _⟩ => ⟨S40x512, .f32⟩
  | .local _ .vmem, ⟨5, _⟩ => ⟨S40x512, .f32⟩
  | .local _ .vmem, ⟨6, _⟩ => ⟨S40x512, .f32⟩
  | .local _ .smem, ⟨0, _⟩ => ⟨S40, .i32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev main_v12_5 : Ref sig .tc := ⟨.hbm, 21, rfl⟩
abbrev main_v12_6 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_0 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_c_4 : Ref sig .tc := ⟨.hbm, 62, rfl⟩
abbrev main_v46 : Ref sig .tc := ⟨.hbm, 63, rfl⟩
abbrev main_v47 : Ref sig .tc := ⟨.hbm, 64, rfl⟩
abbrev main_c_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_6 : Ref sig .tc := ⟨.hbm, 71, rfl⟩
abbrev main_v53 : Ref sig .tc := ⟨.hbm, 72, rfl⟩
abbrev main_v54 : Ref sig .tc := ⟨.hbm, 73, rfl⟩
abbrev main_c_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_c_9 : Ref sig .tc := ⟨.hbm, 83, rfl⟩
abbrev main_call0_v0 : Ref sig .tc := ⟨.hbm, 84, rfl⟩
abbrev main_call0_v1 : Ref sig .tc := ⟨.hbm, 85, rfl⟩
abbrev main_v62 : Ref sig .tc := ⟨.hbm, 86, rfl⟩
abbrev main_cst_10 : Ref sig .tc := ⟨.hbm, 87, rfl⟩
abbrev main_call1_v0 : Ref sig .tc := ⟨.hbm, 88, rfl⟩
abbrev main_call1_v1 : Ref sig .tc := ⟨.hbm, 89, rfl⟩
abbrev main_v63 : Ref sig .tc := ⟨.hbm, 90, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c40_i32 : BitVec 32 := 40#32
  let v21 : BitVec 32 := Scalar.addi c0_i32 c40_i32
  let c1_i32 : BitVec 32 := 1#32
  ⟨c0_i32, v21, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v22 : Index := Scalar.indexCast arg8
  let c0_9 : Index := 0#32
  ![v22.toNat, 0]
def k0_off2 (k0_t1 : Fin k0_t1_loop.trips) : Fin 1 → Nat :=
  let c0_i32 : BitVec 32 := 0#32
  let c1_i32 : BitVec 32 := 1#32
  let arg8 : BitVec 32 := Scf.iv c0_i32 c1_i32 k0_t1
  let v108 : Index := Scalar.indexCast arg8
  ![v108.toNat]
@[reducible] def k0_t2_loop (k0_t1 : Fin k0_t1_loop.trips) (v109 : BitVec 32) : Scf.Loop 32 :=
  let c0_i32 : BitVec 32 := 0#32
  let c1_i32 : BitVec 32 := 1#32
  let arg8 : BitVec 32 := Scf.iv c0_i32 c1_i32 k0_t1
  let c1_i32_28 : BitVec 32 := 1#32
  let v107 : BitVec 32 := Scalar.addi arg8 c1_i32_28
  let v110 : BitVec 32 := Scalar.subi v109 v107
  let c1_i32_30 : BitVec 32 := 1#32
  let v112 : BitVec 32 := Scalar.divsi v110 c1_i32_30
  let v113 : BitVec 32 := Scalar.muli v112 c1_i32_30
  let v114 : BitVec 32 := Scalar.addi v107 v113
  let c1_i32_31 : BitVec 32 := 1#32
  ⟨v107, v114, c1_i32_31⟩

def k0_off3 (k0_t1 : Fin k0_t1_loop.trips) (v109 : BitVec 32) (k0_t2 : Fin (k0_t2_loop k0_t1 v109).trips) : Fin 2 → Nat :=
  let c0_i32 : BitVec 32 := 0#32
  let c1_i32 : BitVec 32 := 1#32
  let arg8 : BitVec 32 := Scf.iv c0_i32 c1_i32 k0_t1
  let c1_i32_28 : BitVec 32 := 1#32
  let v107 : BitVec 32 := Scalar.addi arg8 c1_i32_28
  let c1_i32_31 : BitVec 32 := 1#32
  let arg9 : BitVec 32 := Scf.iv v107 c1_i32_31 k0_t2
  let v115 : Index := Scalar.indexCast arg9
  let c0_33 : Index := 0#32
  ![v115.toNat, 0]
@[reducible] def k0_t3_loop (k0_t1 : Fin k0_t1_loop.trips) (v109 : BitVec 32) : Scf.Loop 32 :=
  let c0_i32 : BitVec 32 := 0#32
  let c1_i32 : BitVec 32 := 1#32
  let arg8 : BitVec 32 := Scf.iv c0_i32 c1_i32 k0_t1
  let c1_i32_28 : BitVec 32 := 1#32
  let v107 : BitVec 32 := Scalar.addi arg8 c1_i32_28
  let v110 : BitVec 32 := Scalar.subi v109 v107
  let c1_i32_30 : BitVec 32 := 1#32
  let v112 : BitVec 32 := Scalar.divsi v110 c1_i32_30
  let v113 : BitVec 32 := Scalar.muli v112 c1_i32_30
  let v114 : BitVec 32 := Scalar.addi v107 v113
  let v111 : BitVec 32 := Scalar.addi v107 v110
  let c1_i32_32 : BitVec 32 := 1#32
  ⟨v114, v111, c1_i32_32⟩
def k0_off4 (k0_t1 : Fin k0_t1_loop.trips) (v109 : BitVec 32) (k0_t3 : Fin (k0_t3_loop k0_t1 v109).trips) : Fin 2 → Nat :=
  let c0_i32 : BitVec 32 := 0#32
  let c1_i32 : BitVec 32 := 1#32
  let arg8 : BitVec 32 := Scf.iv c0_i32 c1_i32 k0_t1
  let c1_i32_28 : BitVec 32 := 1#32
  let v107 : BitVec 32 := Scalar.addi arg8 c1_i32_28
  let v110 : BitVec 32 := Scalar.subi v109 v107
  let c1_i32_30 : BitVec 32 := 1#32
  let v112 : BitVec 32 := Scalar.divsi v110 c1_i32_30
  let v113 : BitVec 32 := Scalar.muli v112 c1_i32_30
  let v114 : BitVec 32 := Scalar.addi v107 v113
  let c1_i32_32 : BitVec 32 := 1#32
  let arg9 : BitVec 32 := Scf.iv v114 c1_i32_32 k0_t3
  let v115 : Index := Scalar.indexCast arg9
  let c0_33 : Index := 0#32
  ![v115.toNat, 0]

def k0_chk1 (k0_t1 : Fin k0_t1_loop.trips) (v109 : BitVec 32) : Prop :=
  ((k0_t2_loop k0_t1 v109).OK) ∧
  (∀ k0_t2 : Fin (k0_t2_loop k0_t1 v109).trips, ∀ a, (k0_off3 k0_t1 v109 k0_t2) a + S1x512.size a ≤ S40x512.size a) ∧
  ((k0_t3_loop k0_t1 v109).OK) ∧
  (∀ k0_t3 : Fin (k0_t3_loop k0_t1 v109).trips, ∀ a, (k0_off4 k0_t1 v109 k0_t3) a + S1x512.size a ≤ S40x512.size a)
theorem k0_t2_ok : ∀ (k0_t1 : Fin k0_t1_loop.trips) (v109 : BitVec 32) (k0_hw1 : k0_chk1 k0_t1 v109), (k0_t2_loop k0_t1 v109).OK := fun k0_t1 v109 k0_hw1 => k0_hw1.1
theorem k0_off3_inb : ∀ (k0_t1 : Fin k0_t1_loop.trips) (v109 : BitVec 32) (k0_hw1 : k0_chk1 k0_t1 v109) (k0_t2 : Fin (k0_t2_loop k0_t1 v109).trips), ∀ a, (k0_off3 k0_t1 v109 k0_t2) a + S1x512.size a ≤ S40x512.size a := fun k0_t1 v109 k0_hw1 k0_t2 => k0_hw1.2.1 k0_t2
theorem k0_t3_ok : ∀ (k0_t1 : Fin k0_t1_loop.trips) (v109 : BitVec 32) (k0_hw1 : k0_chk1 k0_t1 v109), (k0_t3_loop k0_t1 v109).OK := fun k0_t1 v109 k0_hw1 => k0_hw1.2.2.1
theorem k0_off4_inb : ∀ (k0_t1 : Fin k0_t1_loop.trips) (v109 : BitVec 32) (k0_hw1 : k0_chk1 k0_t1 v109) (k0_t3 : Fin (k0_t3_loop k0_t1 v109).trips), ∀ a, (k0_off4 k0_t1 v109 k0_t3) a + S1x512.size a ≤ S40x512.size a := fun k0_t1 v109 k0_hw1 k0_t3 => k0_hw1.2.2.2 k0_t3

abbrev stage0_0 : Fin 1 → Memref sig .tc .smem S40 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S_ : Shape := ⟨0, ![]⟩
abbrev S20000x1 : Shape := ⟨2, ![20000, 1]⟩
abbrev S1x4 : Shape := ⟨2, ![1, 4]⟩
abbrev S4 : Shape := ⟨1, ![4]⟩
abbrev S1 : Shape := ⟨1, ![1]⟩

abbrev nBuf : Space → Nat
  | .hbm => 152
  | .vmem => 0
  | .smem => 0
  | _ => 0

abbrev hbmTy0_0 (i : Nat) : BufTy := match i % 128 with
  | 0 => ⟨S20000x4, .f32⟩
  | 1 => ⟨S20000, .f32⟩
  | 2 => ⟨S20000, .i32⟩
  | 3 => ⟨S_, .f32⟩
  | 4 => ⟨S_, .f32⟩
  | 5 => ⟨S20000, .f32⟩
  | 6 => ⟨S_, .f32⟩
  | 7 => ⟨S_, .f32⟩
  | 8 => ⟨S20000, .f32⟩
  | 9 => ⟨S20000, .f32⟩
  | 10 => ⟨S20000x1, .f32⟩
  | 11 => ⟨S20000x4, .f32⟩
  | 12 => ⟨S20000x4, .f32⟩
  | 13 => ⟨S20000, .f32⟩
  | 14 => ⟨S20000, .i32⟩
  | 15 => ⟨S20000, .f32⟩
  | 16 => ⟨S20000, .i32⟩
  | 17 => ⟨S_, .i32⟩
  | 18 => ⟨S20000, .i32⟩
  | 19 => ⟨S20000, .i1⟩
  | 20 => ⟨S_, .i32⟩
  | 21 => ⟨S20000, .i32⟩
  | 22 => ⟨S20000, .i32⟩
  | 23 => ⟨S20000, .i32⟩
  | 24 => ⟨S20000x1, .i32⟩
  | 25 => ⟨S20000x4, .f32⟩
  | 26 => ⟨S20000, .i32⟩
  | 27 => ⟨S_, .i1⟩
  | 28 => ⟨S20000, .i1⟩
  | 29 => ⟨S_, .i32⟩
  | 30 => ⟨S_, .i32⟩
  | 31 => ⟨S20000x4, .f32⟩
  | 32 => ⟨S20000, .i32⟩
  | 33 => ⟨S_, .i32⟩
  | 34 => ⟨S_, .i32⟩
  | 35 => ⟨S20000, .i1⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S1x4, .f32⟩
  | 55 => ⟨S4, .f32⟩
  | 56 => ⟨S1, .f32⟩
  | 57 => ⟨S_, .f32⟩
  | 58 => ⟨S20000x1, .f32⟩
  | 59 => ⟨S20000, .f32⟩
  | 60 => ⟨S20000, .f32⟩
  | 61 => ⟨S20000, .f32⟩
  | 62 => ⟨S1, .f32⟩
  | 63 => ⟨S_, .f32⟩
  | 64 => ⟨S20000x1, .f32⟩
  | 65 => ⟨S20000, .f32⟩
  | 66 => ⟨S20000, .f32⟩
  | 67 => ⟨S20000, .f32⟩
  | 68 => ⟨S1, .f32⟩
  | 69 => ⟨S_, .f32⟩
  | 70 => ⟨S20000x1, .f32⟩
  | 71 => ⟨S20000, .f32⟩
  | 72 => ⟨S20000, .f32⟩
  | 73 => ⟨S20000, .f32⟩
  | 74 => ⟨S1, .f32⟩
  | 75 => ⟨S_, .f32⟩
  | 76 => ⟨S20000x1, .f32⟩
  | 77 => ⟨S20000, .f32⟩
  | 78 => ⟨S20000, .f32⟩
  | 79 => ⟨S20000, .f32⟩
  | 80 => ⟨S20000, .f32⟩
  | 81 => ⟨S_, .f32⟩
  | 82 => ⟨S20000, .f32⟩
  | 83 => ⟨S20000, .f32⟩
  | 84 => ⟨S20000, .f32⟩
  | 85 => ⟨S_, .f32⟩
  | 86 => ⟨S20000, .f32⟩
  | 87 => ⟨S20000, .f32⟩
  | 88 => ⟨S20000, .f32⟩
  | 89 => ⟨S1, .f32⟩
  | 90 => ⟨S_, .f32⟩
  | 91 => ⟨S1, .f32⟩
  | 92 => ⟨S_, .f32⟩
  | 93 => ⟨S_, .f32⟩
  | 94 => ⟨S1, .f32⟩
  | 95 => ⟨S_, .f32⟩
  | 96 => ⟨S1, .f32⟩
  | 97 => ⟨S_, .f32⟩
  | 98 => ⟨S_, .f32⟩
  | 99 => ⟨S_, .f32⟩
  | 100 => ⟨S20000x1, .f32⟩
  | 101 => ⟨S20000, .f32⟩
  | 102 => ⟨S20000x1, .f32⟩
  | 103 => ⟨S20000, .f32⟩
  | 104 => ⟨S20000, .f32⟩
  | 105 => ⟨S20000x1, .f32⟩
  | 106 => ⟨S20000, .f32⟩
  | 107 => ⟨S20000x1, .f32⟩
  | 108 => ⟨S20000, .f32⟩
  | 109 => ⟨S20000, .f32⟩
  | 110 => ⟨S20000, .f32⟩
  | 111 => ⟨S20000, .f32⟩
  | 112 => ⟨S20000, .f32⟩
  | 113 => ⟨S20000, .f32⟩
  | 114 => ⟨S20000, .f32⟩
  | 115 => ⟨S_, .f32⟩
  | 116 => ⟨S20000, .f32⟩
  | 117 => ⟨S20000, .i1⟩
  | 118 => ⟨S_, .i32⟩
  | 119 => ⟨S20000, .i32⟩
  | 120 => ⟨S20000, .i1⟩
  | 121 => ⟨S20000, .i1⟩
  | 122 => ⟨S20000, .i1⟩
  | 123 => ⟨S_, .i32⟩
  | 124 => ⟨S_, .i1⟩
  | 125 => ⟨S_, .i32⟩
  | 126 => ⟨S_, .i32⟩
  | 127 => ⟨S_, .i32⟩
  | _ => ⟨S20000x4, .f32⟩

abbrev hbmTy0_1 (i : Nat) : BufTy := match i % 128 with
  | 0 => ⟨S_, .i32⟩
  | 1 => ⟨S1, .i1⟩
  | 2 => ⟨S_, .i1⟩
  | 3 => ⟨S20000, .i1⟩
  | 4 => ⟨S_, .i32⟩
  | 5 => ⟨S_, .i32⟩
  | 6 => ⟨S20000, .i1⟩
  | 7 => ⟨S_, .i32⟩
  | 8 => ⟨S_, .i32⟩
  | 9 => ⟨S20000, .i32⟩
  | 10 => ⟨S20000, .i32⟩
  | 11 => ⟨S_, .i32⟩
  | 12 => ⟨S20000, .i32⟩
  | 13 => ⟨S20000, .i1⟩
  | 14 => ⟨S_, .i32⟩
  | 15 => ⟨S20000, .i32⟩
  | 16 => ⟨S20000, .i32⟩
  | 17 => ⟨S20000, .i32⟩
  | 18 => ⟨S20000x1, .i32⟩
  | 19 => ⟨S20000, .f32⟩
  | 20 => ⟨S_, .f32⟩
  | 21 => ⟨S_, .f32⟩
  | 22 => ⟨S20000, .f32⟩
  | 23 => ⟨S20000, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1_0 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_c_3 : Ref sig .tc := ⟨.hbm, 29, rfl⟩
abbrev main_c_4 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_while0c_c_13 : Ref sig .tc := ⟨.hbm, 36, rfl⟩
abbrev main_while0c_v30 : Ref sig .tc := ⟨.hbm, 37, rfl⟩
abbrev main_while0b_c_13 : Ref sig .tc := ⟨.hbm, 38, rfl⟩
abbrev main_while0b_v30 : Ref sig .tc := ⟨.hbm, 39, rfl⟩
abbrev main_while0b_v31 : Ref sig .tc := ⟨.hbm, 40, rfl⟩
abbrev main_while0b_c_14 : Ref sig .tc := ⟨.hbm, 41, rfl⟩
abbrev main_while0b_v32 : Ref sig .tc := ⟨.hbm, 42, rfl⟩
abbrev main_while0b_c_15 : Ref sig .tc := ⟨.hbm, 43, rfl⟩
abbrev main_while0b_v33 : Ref sig .tc := ⟨.hbm, 44, rfl⟩
abbrev main_while0b_v34 : Ref sig .tc := ⟨.hbm, 45, rfl⟩
abbrev main_while0b_c_16 : Ref sig .tc := ⟨.hbm, 46, rfl⟩
abbrev main_while0b_c_17 : Ref sig .tc := ⟨.hbm, 47, rfl⟩
abbrev main_while0b_v35 : Ref sig .tc := ⟨.hbm, 48, rfl⟩
abbrev main_while0b_c_18 : Ref sig .tc := ⟨.hbm, 49, rfl⟩
abbrev main_while0b_c_19 : Ref sig .tc := ⟨.hbm, 50, rfl⟩
abbrev main_while0b_v36 : Ref sig .tc := ⟨.hbm, 51, rfl⟩
abbrev main_while0b_c_20 : Ref sig .tc := ⟨.hbm, 52, rfl⟩
abbrev main_while0b_v37 : Ref sig .tc := ⟨.hbm, 53, rfl⟩
abbrev main_while0b_v38 : Ref sig .tc := ⟨.hbm, 54, rfl⟩
abbrev main_while0b_v39 : Ref sig .tc := ⟨.hbm, 55, rfl⟩
abbrev main_while0b_v40 : Ref sig .tc := ⟨.hbm, 56, rfl⟩
abbrev main_while0b_v41 : Ref sig .tc := ⟨.hbm, 57, rfl⟩
abbrev main_while0b_v42 : Ref sig .tc := ⟨.hbm, 58, rfl⟩
abbrev main_while0b_v43 : Ref sig .tc := ⟨.hbm, 59, rfl⟩
abbrev main_while0b_v44 : Ref sig .tc := ⟨.hbm, 60, rfl⟩
abbrev main_while0b_v45 : Ref sig .tc := ⟨.hbm, 61, rfl⟩
abbrev main_while0b_v46 : Ref sig .tc := ⟨.hbm, 62, rfl⟩
abbrev main_while0b_v47 : Ref sig .tc := ⟨.hbm, 63, rfl⟩
abbrev main_while0b_v48 : Ref sig .tc := ⟨.hbm, 64, rfl⟩
abbrev main_while0b_v49 : Ref sig .tc := ⟨.hbm, 65, rfl⟩
abbrev main_while0b_v50 : Ref sig .tc := ⟨.hbm, 66, rfl⟩
abbrev main_while0b_v51 : Ref sig .tc := ⟨.hbm, 67, rfl⟩
abbrev main_while0b_v52 : Ref sig .tc := ⟨.hbm, 68, rfl⟩
abbrev main_while0b_v53 : Ref sig .tc := ⟨.hbm, 69, rfl⟩
abbrev main_while0b_v54 : Ref sig .tc := ⟨.hbm, 70, rfl⟩
abbrev main_while0b_v55 : Ref sig .tc := ⟨.hbm, 71, rfl⟩
abbrev main_while0b_v56 : Ref sig .tc := ⟨.hbm, 72, rfl⟩
abbrev main_while0b_v57 : Ref sig .tc := ⟨.hbm, 73, rfl⟩
abbrev main_while0b_v58 : Ref sig .tc := ⟨.hbm, 74, rfl⟩
abbrev main_while0b_v59 : Ref sig .tc := ⟨.hbm, 75, rfl⟩
abbrev main_while0b_v60 : Ref sig .tc := ⟨.hbm, 76, rfl⟩
abbrev main_while0b_v61 : Ref sig .tc := ⟨.hbm, 77, rfl⟩
abbrev main_while0b_v62 : Ref sig .tc := ⟨.hbm, 78, rfl⟩
abbrev main_while0b_v63 : Ref sig .tc := ⟨.hbm, 79, rfl⟩
abbrev main_while0b_v64 : Ref sig .tc := ⟨.hbm, 80, rfl⟩
abbrev main_while0b_cst_21 : Ref sig .tc := ⟨.hbm, 81, rfl⟩
abbrev main_while0b_v65 : Ref sig .tc := ⟨.hbm, 82, rfl⟩
abbrev main_while0b_v66 : Ref sig .tc := ⟨.hbm, 83, rfl⟩
abbrev main_while0b_v67 : Ref sig .tc := ⟨.hbm, 84, rfl⟩
abbrev main_while0b_cst_22 : Ref sig .tc := ⟨.hbm, 85, rfl⟩
abbrev main_while0b_v68 : Ref sig .tc := ⟨.hbm, 86, rfl⟩
abbrev main_while0b_v69 : Ref sig .tc := ⟨.hbm, 87, rfl⟩
abbrev main_while0b_v70 : Ref sig .tc := ⟨.hbm, 88, rfl⟩
abbrev main_while0b_v71 : Ref sig .tc := ⟨.hbm, 89, rfl⟩
abbrev main_while0b_v72 : Ref sig .tc := ⟨.hbm, 90, rfl⟩
abbrev main_while0b_v73 : Ref sig .tc := ⟨.hbm, 91, rfl⟩
abbrev main_while0b_v74 : Ref sig .tc := ⟨.hbm, 92, rfl⟩
abbrev main_while0b_v75 : Ref sig .tc := ⟨.hbm, 93, rfl⟩
abbrev main_while0b_v76 : Ref sig .tc := ⟨.hbm, 94, rfl⟩
abbrev main_while0b_v77 : Ref sig .tc := ⟨.hbm, 95, rfl⟩
abbrev main_while0b_v78 : Ref sig .tc := ⟨.hbm, 96, rfl⟩
abbrev main_while0b_v79 : Ref sig .tc := ⟨.hbm, 97, rfl⟩
abbrev main_while0b_v80 : Ref sig .tc := ⟨.hbm, 98, rfl⟩
abbrev main_while0b_v81 : Ref sig .tc := ⟨.hbm, 99, rfl⟩
abbrev main_while0b_v82 : Ref sig .tc := ⟨.hbm, 100, rfl⟩
abbrev main_while0b_v83 : Ref sig .tc := ⟨.hbm, 101, rfl⟩
abbrev main_while0b_v84 : Ref sig .tc := ⟨.hbm, 102, rfl⟩
abbrev main_while0b_v85 : Ref sig .tc := ⟨.hbm, 103, rfl⟩
abbrev main_while0b_v86 : Ref sig .tc := ⟨.hbm, 104, rfl⟩
abbrev main_while0b_v87 : Ref sig .tc := ⟨.hbm, 105, rfl⟩
abbrev main_while0b_v88 : Ref sig .tc := ⟨.hbm, 106, rfl⟩
abbrev main_while0b_v89 : Ref sig .tc := ⟨.hbm, 107, rfl⟩
abbrev main_while0b_v90 : Ref sig .tc := ⟨.hbm, 108, rfl⟩
abbrev main_while0b_v91 : Ref sig .tc := ⟨.hbm, 109, rfl⟩
abbrev main_while0b_v92 : Ref sig .tc := ⟨.hbm, 110, rfl⟩
abbrev main_while0b_v93 : Ref sig .tc := ⟨.hbm, 111, rfl⟩
abbrev main_while0b_v94 : Ref sig .tc := ⟨.hbm, 112, rfl⟩
abbrev main_while0b_v95 : Ref sig .tc := ⟨.hbm, 113, rfl⟩
abbrev main_while0b_v96 : Ref sig .tc := ⟨.hbm, 114, rfl⟩
abbrev main_while0b_cst_23 : Ref sig .tc := ⟨.hbm, 115, rfl⟩
abbrev main_while0b_v97 : Ref sig .tc := ⟨.hbm, 116, rfl⟩
abbrev main_while0b_v98 : Ref sig .tc := ⟨.hbm, 117, rfl⟩
abbrev main_while0b_v99 : Ref sig .tc := ⟨.hbm, 118, rfl⟩
abbrev main_while0b_v100 : Ref sig .tc := ⟨.hbm, 119, rfl⟩
abbrev main_while0b_v101 : Ref sig .tc := ⟨.hbm, 120, rfl⟩
abbrev main_while0b_v102 : Ref sig .tc := ⟨.hbm, 121, rfl⟩
abbrev main_while0b_v103 : Ref sig .tc := ⟨.hbm, 122, rfl⟩
abbrev main_while0b_c_24 : Ref sig .tc := ⟨.hbm, 123, rfl⟩
abbrev main_while0b_v104 : Ref sig .tc := ⟨.hbm, 124, rfl⟩
abbrev main_while0b_v105 : Ref sig .tc := ⟨.hbm, 125, rfl⟩
abbrev main_while0b_c_25 : Ref sig .tc := ⟨.hbm, 126, rfl⟩
abbrev main_while0b_v106 : Ref sig .tc := ⟨.hbm, 127, rfl⟩
abbrev main_while0b_v107 : Ref sig .tc := ⟨.hbm, 128, rfl⟩
abbrev main_while0b_v108 : Ref sig .tc := ⟨.hbm, 129, rfl⟩
abbrev main_while0b_v109 : Ref sig .tc := ⟨.hbm, 130, rfl⟩
abbrev main_while0b_v110 : Ref sig .tc := ⟨.hbm, 131, rfl⟩
abbrev main_while0b_c_26 : Ref sig .tc := ⟨.hbm, 132, rfl⟩
abbrev main_while0b_v111 : Ref sig .tc := ⟨.hbm, 133, rfl⟩
abbrev main_v20 : Ref sig .tc := ⟨.hbm, 134, rfl⟩
abbrev main_c_5 : Ref sig .tc := ⟨.hbm, 135, rfl⟩
abbrev main_call2_v0 : Ref sig .tc := ⟨.hbm, 136, rfl⟩
abbrev main_call2_v1 : Ref sig .tc := ⟨.hbm, 137, rfl⟩
abbrev main_v21 : Ref sig .tc := ⟨.hbm, 138, rfl⟩
abbrev main_c_6 : Ref sig .tc := ⟨.hbm, 139, rfl⟩
abbrev main_v22 : Ref sig .tc := ⟨.hbm, 140, rfl⟩
abbrev main_v23 : Ref sig .tc := ⟨.hbm, 141, rfl⟩
abbrev main_c_7 : Ref sig .tc := ⟨.hbm, 142, rfl⟩
abbrev main_v24 : Ref sig .tc := ⟨.hbm, 143, rfl⟩
abbrev main_v25 : Ref sig .tc := ⟨.hbm, 144, rfl⟩
abbrev main_v26 : Ref sig .tc := ⟨.hbm, 145, rfl⟩
abbrev main_v27 : Ref sig .tc := ⟨.hbm, 146, rfl⟩
abbrev main_v28 : Ref sig .tc := ⟨.hbm, 147, rfl⟩
abbrev main_cst_8 : Ref sig .tc := ⟨.hbm, 148, rfl⟩
abbrev main_call3_v0 : Ref sig .tc := ⟨.hbm, 149, rfl⟩
abbrev main_call3_v1 : Ref sig .tc := ⟨.hbm, 150, rfl⟩
abbrev main_v29 : Ref sig .tc := ⟨.hbm, 151, rfl⟩

abbrev nD : Nat := 1
abbrev τ : Topo := Topo.v7x

variable {F : FTy → Type} [FloatOps F]

abbrev main_while0_count : Scf.Loop 32 := ⟨0#32, 20000#32, 1#32⟩
-- ==== Proof.R.Frame.lean ====
/-
  The reference's run read at a buffer the loop does not write, and at its arguments: the frame.
-/
module

public import proofs.«01_k».proof.Defs
public import proofs.«01_k».proof.Proof.Gen.ReferenceIdeal.Run
public import Idealize.ShloMosaic.Lib.Quiescent

@[expose] public section

noncomputable section

namespace Cert.Proof.R

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]
variable (m : (ℓ : Loc nD τ sig) → Buf (Elt F) ℓ)

/-- The references one trip of the loop writes. -/
abbrev loopW : List (Ref sig .tc) := condOps_W ++ (while0Ops0_W ++ (while0Ops0_1_W ++ while0Ops0_2_W))

/-- A buffer no operation of the loop writes is what it was at the loop's entry. -/
theorem atK_keep (c : Dev nD) (r : Ref sig .tc) (h : r ∉ loopW) :
    ∀ k, atK m k c (Proc.devRef .tc r) = entryContents preI m c (Proc.devRef .tc r)
  | 0 => rfl
  | k + 1 => by
    have h1 : r ∉ condOps_W := fun x => h (List.mem_append_left _ x)
    have h2 : r ∉ while0Ops0_W := fun x => h (List.mem_append_right _ (List.mem_append_left _ x))
    have h3 : r ∉ while0Ops0_1_W := fun x => h (List.mem_append_right _ (List.mem_append_right _ (List.mem_append_left _ x)))
    have h4 : r ∉ while0Ops0_2_W := fun x => h (List.mem_append_right _ (List.mem_append_right _ (List.mem_append_right _ x)))
    rw [show atK m (k + 1) c = afterL bodyI (after condOps (atK m k c)) from rfl]
    simp only [afterL_cons, afterL_nil]
    rw [after_of_writes_sub _ _ while0Ops0_2_writes h4, after_of_writes_sub _ _ while0Ops0_1_writes h3,
      after_of_writes_sub _ _ while0Ops0_writes h2, after_of_writes_sub _ _ condOps_writes h1, atK_keep c r h k]
    rfl

/-- The references the stretches after the loop write. -/
abbrev postW3 : List (Ref sig .tc) := [main_v20, main_c_5]
abbrev postW4 : List (Ref sig .tc) := [main_call2_v0, main_call2_v1, main_v21]
abbrev postW5 : List (Ref sig .tc) := [main_c_6, main_v22, main_v23, main_c_7, main_v24, main_v25, main_v26, main_v27, main_v28, main_cst_8]
abbrev postW6 : List (Ref sig .tc) := [main_call3_v0, main_call3_v1, main_v29]

/-- The last host lines write only these. -/
theorem postW3_writes : (hostOps0_3 : List (HloOp τ sig (Elt F))).Forall fun op => op.writes ⊆ (postW3.map (Proc.devRef (τ := τ) .tc)).toFinset :=
  forall_writes_sub_of_map rfl
theorem postW4_writes : (hostOps0_4 : List (HloOp τ sig (Elt F))).Forall fun op => op.writes ⊆ (postW4.map (Proc.devRef (τ := τ) .tc)).toFinset :=
  forall_writes_sub_of_map rfl
theorem postW5_writes : (hostOps0_5 : List (HloOp τ sig (Elt F))).Forall fun op => op.writes ⊆ (postW5.map (Proc.devRef (τ := τ) .tc)).toFinset :=
  forall_writes_sub_of_map rfl
theorem postW6_writes : (hostOps0_6 : List (HloOp τ sig (Elt F))).Forall fun op => op.writes ⊆ (postW6.map (Proc.devRef (τ := τ) .tc)).toFinset :=
  forall_writes_sub_of_map rfl

/-- The valuation the stretches after the loop begin with. -/
abbrev exitV (c : Dev nD) : Valuation τ sig (Elt F) := after condOps (atK m 20000 c)

/-- The contents at the end: the last host lines after the loop. -/
theorem final_eq (c : Dev nD) : finalContents condOps preI bodyI postI 20000 m c = afterL postI (exitV m c) := rfl

/-- The loop's condition keeps a buffer it does not write. -/
theorem exitV_keep (c : Dev nD) (r : Ref sig .tc) (h : r ∉ condOps_W) : exitV m c (Proc.devRef .tc r) = atK m 20000 c (Proc.devRef .tc r) :=
  after_of_writes_sub _ _ condOps_writes h

/-- A buffer written neither by the loop nor before or after it ends as it was. -/
theorem final_keep (c : Dev nD) (r : Ref sig .tc) (h : r ∉ loopW) (h3 : r ∉ postW3) (h4 : r ∉ postW4) (h5 : r ∉ postW5) (h6 : r ∉ postW6)
    (g0 : r ∉ hostOps0_W) (g1 : r ∉ hostOps0_1_W) (g2 : r ∉ hostOps0_2_W) :
    finalContents condOps preI bodyI postI 20000 m c (Proc.devRef .tc r) = m ((c.tc : Thread nD τ).loc r) := by
  rw [final_eq]
  simp only [afterL_cons, afterL_nil]
  rw [after_of_writes_sub _ _ postW6_writes h6, after_of_writes_sub _ _ postW5_writes h5, after_of_writes_sub _ _ postW4_writes h4,
    after_of_writes_sub _ _ postW3_writes h3, exitV_keep m c r (fun x => h (List.mem_append_left _ x)), atK_keep m c r h]
  simp only [entryContents, afterL_cons, afterL_nil]
  rw [after_of_writes_sub _ _ hostOps0_2_writes g2, after_of_writes_sub _ _ hostOps0_1_writes g1, after_of_writes_sub _ _ hostOps0_writes g0]

/-- The arguments at the end. -/
theorem final_arg0 (c : Dev nD) : finalContents condOps preI bodyI postI 20000 m c (Proc.devRef .tc main_arg0) = m ((c.tc : Thread nD τ).loc main_arg0) :=
  final_keep m c main_arg0 (by decide +kernel) (by decide +kernel) (by decide +kernel) (by decide +kernel) (by decide +kernel) (by decide +kernel) (by decide +kernel) (by decide +kernel)
theorem final_arg1 (c : Dev nD) : finalContents condOps preI bodyI postI 20000 m c (Proc.devRef .tc main_arg1) = m ((c.tc : Thread nD τ).loc main_arg1) :=
  final_keep m c main_arg1 (by decide +kernel) (by decide +kernel) (by decide +kernel) (by decide +kernel) (by decide +kernel) (by decide +kernel) (by decide +kernel) (by decide +kernel)
theorem final_arg2 (c : Dev nD) : finalContents condOps preI bodyI postI 20000 m c (Proc.devRef .tc main_arg2) = m ((c.tc : Thread nD τ).loc main_arg2) :=
  final_keep m c main_arg2 (by decide +kernel) (by decide +kernel) (by decide +kernel) (by decide +kernel) (by decide +kernel) (by decide +kernel) (by decide +kernel) (by decide +kernel)

/-- The reference's run at a result or argument buffer, with the counters: the program declares no semaphore. -/
theorem run_args (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0 rfl).trans (final_arg0 m c), (h c main_arg1 rfl).trans (final_arg1 m c),
    (h c main_arg2 rfl).trans (final_arg2 m c)⟩, sem_eq_zero_of_no_sems (by decide) r.2⟩) (run_fold m ρ)

end Cert.Proof.R

end
-- ==== Proof.KI.Setup.lean ====
/-
  The launch of the idealized kernel's program: @main around its one kernel region (the host lines before it, the region,
  the host lines after it), what the host lines leave unwritten, each window's block, and the frame's post read off a run.
  The body itself is in `Step.lean` (its values) and `Body.lean` (its triple), the run in `Run.lean`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line makes a fresh buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1, hostOps1_1, hostOps1_2, hostOps1_3].map StableHlo.seq)) :=
  Pipeline.hmain_around (cfgs (F := F)) 0 defs₀ 𝒱₀ m main [hostOps0] [hostOps1, hostOps1_1, hostOps1_2, hostOps1_3] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1, hostOps1_1, hostOps1_2, hostOps1_3] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
/-- They allocate nothing. -/
theorem sfx_fresh : ∀ ops ∈ ([hostOps1, hostOps1_1, hostOps1_2, hostOps1_3] : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
set_option maxHeartbeats 462000 in
/-- And write no array of the pipeline (each writes only its own result buffer, which is no array). -/
theorem sfx_keeps : ∀ ops ∈ ([hostOps1, hostOps1_1, hostOps1_2, hostOps1_3] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps1_2, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1, hostOps1_1, hostOps1_2, hostOps1_3] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1, hostOps1_1, hostOps1_2, hostOps1_3] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1, hostOps1_1, hostOps1_2, hostOps1_3] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (Pipeline.afterTail₀ (cfgs (F := F)) dats 0 (V0 m) [hostOps1, hostOps1_1, hostOps1_2, hostOps1_3]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by exact (by decide : ∀ w, Pipeline.arrRef spec0 w ≠ main_arg0)))).trans (W_main_arg0 m dats c)),
      (((h c).2 main_arg1 (Pipeline.mem_restRefs_of main_arg1 (by decide) (by exact (by decide : ∀ w, Pipeline.arrRef spec0 w ≠ main_arg1)))).trans (W_main_arg1 m dats c)),
      (((h c).2 main_arg2 (Pipeline.mem_restRefs_of main_arg2 (by decide) (by exact (by decide : ∀ w, Pipeline.arrRef spec0 w ≠ main_arg2)))).trans (W_main_arg2 m dats c))⟩) h

/-! ## The kernel body on any staging memrefs: a subtype the run finds -/

/-- One staging buffer of output window 6, through which its contents are stated (`View.read_writes_of_cover`: the
    choice does not matter). -/
abbrev VO0_6 : View sig .tc .vmem S40x512 .f32 := (Memref.whole cc0_stg6_0 : Memref sig .tc .vmem S40x512 .f32).view
/-- Each window's current staging memref at point `t`, spelled as the pipeline passes it (`bodyAt0`), and its wholeness. -/
abbrev ms0_0 (t : Fin (cfg0 (F := F)).N) : Memref sig .tc .smem S40 .i32 := win0_0.stage ((cfg0 (F := F)).slots t 0)
abbrev hs0_0 (t : Fin (cfg0 (F := F)).N) : (ms0_0 t).IsWhole := hstage0_0 0
abbrev ms0_1 (t : Fin (cfg0 (F := F)).N) : Memref sig .tc .vmem S40x512 .f32 := win0_1.stage ((cfg0 (F := F)).slots t 1)
abbrev hs0_1 (t : Fin (cfg0 (F := F)).N) : (ms0_1 t).IsWhole := hstage0_1 0
abbrev ms0_2 (t : Fin (cfg0 (F := F)).N) : Memref sig .tc .vmem S40x512 .f32 := win0_2.stage ((cfg0 (F := F)).slots t 2)
abbrev hs0_2 (t : Fin (cfg0 (F := F)).N) : (ms0_2 t).IsWhole := hstage0_2 0
abbrev ms0_3 (t : Fin (cfg0 (F := F)).N) : Memref sig .tc .vmem S40x512 .f32 := win0_3.stage ((cfg0 (F := F)).slots t 3)
abbrev hs0_3 (t : Fin (cfg0 (F := F)).N) : (ms0_3 t).IsWhole := hstage0_3 0
abbrev ms0_4 (t : Fin (cfg0 (F := F)).N) : Memref sig .tc .vmem S40x512 .f32 := win0_4.stage ((cfg0 (F := F)).slots t 4)
abbrev hs0_4 (t : Fin (cfg0 (F := F)).N) : (ms0_4 t).IsWhole := hstage0_4 0
abbrev ms0_5 (t : Fin (cfg0 (F := F)).N) : Memref sig .tc .vmem S40x512 .f32 := win0_5.stage ((cfg0 (F := F)).slots t 5)
abbrev hs0_5 (t : Fin (cfg0 (F := F)).N) : (ms0_5 t).IsWhole := hstage0_5 0
abbrev ms0_6 (t : Fin (cfg0 (F := F)).N) : Memref sig .tc .vmem S40x512 .f32 := win0_6.stage ((cfg0 (F := F)).slots t 6)
abbrev hs0_6 (t : Fin (cfg0 (F := F)).N) : (ms0_6 t).IsWhole := hstage0_6 0
/-- The scratch operands: whole scoped buffers of the kernel's own, passed beside the windows. -/
abbrev scM0_0 : Memref sig .tc .vmem S40x512 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.KI

end
-- ==== Proof.KI.Step.lean ====
/-
  What the kernel body computes, as functions of its six input blocks: the values of one block row (`areaOf`, `ovDiag`),
  the fixpoint of the `scf.while` (`wrun`), the keep row, one push into a later block row (`pushRow`), and the contents of
  the activity scratch before each trip of the outer loop (`actN`). No memory is spoken of here.
-/
module

public import proofs.«01_k».proof.Proof.Gen.KernelIdeal.Skeleton
public import Idealize.ShloMosaic.Lib.ValueIdxCore

@[expose] public section

noncomputable section

namespace Cert.Proof.KI

open Cert.KernelIdeal Cert.KernelIdeal.Gen

open Idealize.ShloMosaic Idealize.ShloMosaic.ValueIdx

variable {F : FTy → Type} [FloatOps F]

/-- The row number `i` (taken modulo 40, so that no bound is asked). -/
def rw40 (i : ℕ) : Fin 40 := ⟨i % 40, Nat.mod_lt _ (by decide)⟩

/-- Row `i` of a 40 × 512 array as a one-row block. -/
def rowOf (x : Vec F S40x512 .f32) (i : ℕ) : Vec F S1x512 .f32 := fun y => x (ix2 (rw40 i) (y 1))

/-- A 40 × 512 array with row `i` replaced. -/
def setRow (x : Vec F S40x512 .f32) (i : ℕ) (w : Vec F S1x512 .f32) : Vec F S40x512 .f32 :=
  fun y => if (y 0).val = i then w (ix2 (0 : Fin 1) (y 1)) else x y

section While

variable (act : FVec F S512 .f32) (ov : FVec F S512x512 .f32)

/-- One round of the while: the retired lanes grown by the newly found ones, and the flag that says whether there were any. -/
def wstep (s : FVec F S512 .f32 × BitVec 32) : FVec F S512 .f32 × BitVec 32 :=
  (k0_pay6 act ov s.1, Scalar.extui (Scalar.cmpf .ogt (k0_pay7 act ov s.1) (Scalar.ofBits .f32 0x00000000#32)))

/-- The while's test. -/
abbrev wgo (s : FVec F S512 .f32 × BitVec 32) : Prop := Scalar.cmpi .sgt s.2 0#32 = 1#1

/-- The while run for at most `n` rounds. -/
def wrun : ℕ → FVec F S512 .f32 × BitVec 32 → FVec F S512 .f32 × BitVec 32
  | 0, s => s
  | n + 1, s => if wgo s then wrun n (wstep act ov s) else s

/-- What the while starts from: nothing retired, the flag up. -/
abbrev wstart : FVec F S512 .f32 × BitVec 32 := (k0_pay37 (F := F), 1#32)

end While

/-- At `F` every while of the kernel stops within 513 rounds. -/
def Stops (F : FTy → Type) [FloatOps F] : Prop :=
  ∀ (act : FVec F S512 .f32) (ov : FVec F S512x512 .f32), ¬ wgo (wrun act ov 513 (wstart (F := F)))

section Blocks

variable (x0 : Vec F S40 .i32) (x1 x2 x3 x4 x5 : Vec F S40x512 .f32)

/-- The class offset's unit: one more than the greatest coordinate. -/
abbrev unitOf : F .f32 := k0_pay2 x3 x4

/-- Block `j`'s areas. -/
abbrev areaOf (j : ℕ) : FVec F S512 .f32 :=
  k0_pay27 (unitOf x3 x4) (rowOf x5 j) (rowOf x1 j) (rowOf x2 j) (rowOf x3 j) (rowOf x4 j)
/-- Block `j`'s offset coordinates and areas as columns. -/
abbrev c1Of (j : ℕ) : FVec F S512x1 .f32 := k0_pay28 (unitOf x3 x4) (rowOf x5 j) (rowOf x1 j)
abbrev c2Of (j : ℕ) : FVec F S512x1 .f32 := k0_pay29 (unitOf x3 x4) (rowOf x5 j) (rowOf x2 j)
abbrev c3Of (j : ℕ) : FVec F S512x1 .f32 := k0_pay30 (unitOf x3 x4) (rowOf x5 j) (rowOf x3 j)
abbrev c4Of (j : ℕ) : FVec F S512x1 .f32 := k0_pay31 (unitOf x3 x4) (rowOf x5 j) (rowOf x4 j)
abbrev caOf (j : ℕ) : FVec F S512x1 .f32 :=
  k0_pay32 (unitOf x3 x4) (rowOf x5 j) (rowOf x1 j) (rowOf x2 j) (rowOf x3 j) (rowOf x4 j)
/-- Block `j` against itself: the overlaps' clamped widths and unclamped heights. -/
abbrev wdOf (j : ℕ) : FVec F S512x512 .f32 := k0_pay34 (unitOf x3 x4) (rowOf x5 j) (rowOf x1 j) (rowOf x3 j)
abbrev htOf (j : ℕ) : FVec F S512x512 .f32 := k0_pay35 (unitOf x3 x4) (rowOf x5 j) (rowOf x2 j) (rowOf x4 j)

/-- Block `j`'s own overlap matrix, strictly above the diagonal. -/
abbrev ovDiag (j : ℕ) : FVec F S512x512 .f32 :=
  k0_pay36 k0_pay1 (areaOf x1 x2 x3 x4 x5 j) (caOf x1 x2 x3 x4 x5 j) (wdOf x1 x3 x4 x5 j) (htOf x2 x3 x4 x5 j)

/-- Block `j`'s retired lanes, its activity row being `a`'s. -/
def retOf (j : ℕ) (a : Vec F S40x512 .f32) : FVec F S512 .f32 :=
  (wrun (k0_pay33 (rowOf a j)) (ovDiag x1 x2 x3 x4 x5 j) 513 (wstart (F := F))).1

/-- Block `j`'s keep row. -/
def keepRow (j : ℕ) (a : Vec F S40x512 .f32) : Vec F S1x512 .f32 :=
  k0_pay39 k0_pay1 (areaOf x1 x2 x3 x4 x5 j) (caOf x1 x2 x3 x4 x5 j) (k0_pay33 (rowOf a j)) (wdOf x1 x3 x4 x5 j) (htOf x2 x3 x4 x5 j)
    (retOf x1 x2 x3 x4 x5 j a)

/-- Row `i` of the activity scratch after block `j`'s kept lanes have been pushed onto it: `a` is the scratch the trip
    began with, `b` the scratch now. -/
def pushRow (j : ℕ) (a : Vec F S40x512 .f32) (i : ℕ) (b : Vec F S40x512 .f32) : Vec F S1x512 .f32 :=
  k0_pay40 k0_pay1 (areaOf x1 x2 x3 x4 x5 j) (caOf x1 x2 x3 x4 x5 j) (k0_pay33 (rowOf a j)) (wdOf x1 x3 x4 x5 j) (htOf x2 x3 x4 x5 j)
    (retOf x1 x2 x3 x4 x5 j a)
    (k0_pay13 (unitOf x3 x4) (c1Of x1 x3 x4 x5 j) (c2Of x2 x3 x4 x5 j) (c3Of x3 x4 x5 j) (c4Of x3 x4 x5 j)
      (rowOf x5 i) (rowOf x1 i) (rowOf x2 i) (rowOf x3 i) (rowOf x4 i))
    (k0_pay14 (unitOf x3 x4) (c1Of x1 x3 x4 x5 j) (c2Of x2 x3 x4 x5 j) (c3Of x3 x4 x5 j) (c4Of x3 x4 x5 j) (caOf x1 x2 x3 x4 x5 j)
      (rowOf x5 i) (rowOf x1 i) (rowOf x2 i) (rowOf x3 i) (rowOf x4 i))
    (rowOf b i)

/-- The scratch after `k` pushes of block `j`. -/
def pushN (j : ℕ) (a : Vec F S40x512 .f32) : ℕ → Vec F S40x512 .f32
  | 0 => a
  | k + 1 => setRow (pushN j a k) (j + 1 + k) (pushRow x1 x2 x3 x4 x5 j a (j + 1 + k) (pushN j a k))

/-- Block `j`'s word of the table of range ends. -/
def endOf (j : ℕ) : BitVec 32 := x0 (ix1 (rw40 j))

/-- How many later blocks block `j` is pushed to. -/
def reach (j : ℕ) : ℕ := ((endOf x0 j).toInt - (j + 1 : ℕ)).toNat

/-- The activity scratch before trip `j` of the outer loop. -/
def actN : ℕ → Vec F S40x512 .f32
  | 0 => k0_pay3 (F := F)
  | j + 1 => pushN x1 x2 x3 x4 x5 j (actN j) (reach x0 j)

/-- The result block: row `j` is block `j`'s keep row at the scratch of trip `j`. -/
def keepOut : Vec F S40x512 .f32 :=
  fun y => keepRow x1 x2 x3 x4 x5 (y 0).val (actN x0 x1 x2 x3 x4 x5 (y 0).val) (ix2 (0 : Fin 1) (y 1))

end Blocks

end Cert.Proof.KI

end
-- ==== Proof.KI.Words.lean ====
/-
  The words of the kernel's inner loop: at a range end between 0 and 40 the loop over the later blocks runs `reach` trips,
  trip `k` addressing row `j + 1 + k`, the remainder loop none, and the printed side condition holds.
-/
module

public import proofs.«01_k».proof.Proof.KI.Step
public import Idealize.ShloMosaic.Lib.Scf

@[expose] public section

noncomputable section

namespace Cert.Proof.KI

open Cert.KernelIdeal Cert.KernelIdeal.Gen

open Idealize.ShloMosaic Idealize.ShloMosaic.ValueIdx

/-- The outer loop has 40 trips. -/
theorem trips_eq : k0_t1_loop.trips = 40 := by decide +kernel

/-- An outer trip is below 40. -/
theorem t1_lt (j : Fin k0_t1_loop.trips) : j.val < 40 := by
  have h := j.isLt
  have e := trips_eq
  omega

/-- The word of `j + 1`. -/
theorem succ_word : ∀ j : Fin k0_t1_loop.trips, Scalar.addi (Scf.iv (0#32) (1#32) j.val) 1#32 = BitVec.ofNat 32 (j.val + 1) := by
  decide +kernel

/-- Words divided or multiplied by one, and a difference added back. -/
theorem divsi_one (x : BitVec 32) : Scalar.divsi x 1#32 = x := by
  simp only [Scalar.divsi, IntOp.divsi]
  rw [if_neg (by unfold IntOp.SDivCorner; simp)]
  simp

theorem muli_one (x : BitVec 32) : Scalar.muli x 1#32 = x := by
  simp [Scalar.muli, IntOp.muli]

theorem add_sub_word (x v : BitVec 32) : Scalar.addi x (Scalar.subi v x) = v := by
  simp only [Scalar.addi, Scalar.subi, IntOp.addi, IntOp.subi]
  rw [BitVec.add_comm]; exact BitVec.sub_add_cancel v x

/-- The inner loop's bounds: from `j + 1` to the range end. -/
theorem t2_loop_eq (j : Fin k0_t1_loop.trips) (v : BitVec 32) : k0_t2_loop j v = ⟨BitVec.ofNat 32 (j.val + 1), v, 1#32⟩ := by
  unfold k0_t2_loop
  simp only [divsi_one, muli_one, succ_word]
  rw [add_sub_word]

/-- The remainder loop's bounds: from the range end to the range end. -/
theorem t3_loop_eq (j : Fin k0_t1_loop.trips) (v : BitVec 32) : k0_t3_loop j v = ⟨v, v, 1#32⟩ := by
  unfold k0_t3_loop
  simp only [divsi_one, muli_one, succ_word]
  simp only [add_sub_word]

/-- A small natural's word, read signed. -/
theorem toInt_ofNat_small (n : ℕ) (h : n ≤ 100) : (BitVec.ofNat 32 n).toInt = n := by
  rw [BitVec.toInt_eq_toNat_of_lt (by rw [BitVec.toNat_ofNat]; omega), BitVec.toNat_ofNat, Nat.mod_eq_of_lt (by omega)]

section

variable (j : Fin k0_t1_loop.trips) (v : BitVec 32) (h0 : 0 ≤ v.toInt) (h1 : v.toInt ≤ 40)

/-- The inner loop's trips: the blocks up to the range end. -/
theorem t2_trips : (k0_t2_loop j v).trips = (v.toInt - (j.val + 1 : ℕ)).toNat := by
  have hj := t1_lt j
  rw [t2_loop_eq]
  unfold Scf.Loop.trips Scf.trips
  simp only
  rw [toInt_ofNat_small _ (by omega)]
  generalize (v.toInt - ((j.val + 1 : ℕ) : ℤ)) = d
  have e1 : (1#32 : BitVec 32).toInt = 1 := by decide
  rw [e1]; simp

/-- The remainder loop is empty. -/
theorem t3_trips : (k0_t3_loop j v).trips = 0 := by
  rw [t3_loop_eq]
  unfold Scf.Loop.trips Scf.trips
  show ((v.toInt - v.toInt + (1#32 : BitVec 32).toInt - 1) / (1#32 : BitVec 32).toInt).toNat = 0
  have e1 : (1#32 : BitVec 32).toInt = 1 := by decide
  simp [e1]

include h0 h1

/-- The inner trip's row. -/
theorem off3_eq (k : Fin (k0_t2_loop j v).trips) : k0_off3 j v k = ![j.val + 1 + k.val, 0] := by
  have hj := t1_lt j
  have hk := k.isLt
  have ht := t2_trips j v
  unfold k0_off3
  simp only [succ_word]
  have e : (Scalar.indexCast (Scf.iv (BitVec.ofNat 32 (j.val + 1)) 1#32 k.val)).toNat = j.val + 1 + k.val := by
    have : Scf.iv (BitVec.ofNat 32 (j.val + 1)) 1#32 k.val = BitVec.ofNat 32 (j.val + 1 + k.val) := by
      unfold Scf.iv
      apply BitVec.eq_of_toNat_eq
      simp [BitVec.toNat_add, BitVec.toNat_mul, BitVec.toNat_ofNat]
    rw [this]
    unfold Scalar.indexCast
    simp
    omega
  rw [e]

/-- That row is one of the 40. -/
theorem row_lt (k : Fin (k0_t2_loop j v).trips) : j.val + 1 + k.val < 40 := by
  have hk := k.isLt
  have ht := t2_trips j v
  omega

/-- The row's check holds when the range end is at most 40. -/
theorem chk_of_range : k0_chk1 j v := by
  have hj := t1_lt j
  have e1 : (1#32 : BitVec 32).toInt = 1 := by decide
  refine ⟨?_, ?_, ?_, ?_⟩
  · rw [t2_loop_eq]
    unfold Scf.Loop.OK Scf.OK
    simp only
    have ht : Scf.trips (BitVec.ofNat 32 (j.val + 1)) v 1#32 ≤ 40 := by
      have := t2_trips j v
      rw [t2_loop_eq] at this
      change Scf.trips (BitVec.ofNat 32 (j.val + 1)) v 1#32 = _ at this
      omega
    have h2 := toInt_ofNat_small (j.val + 1) (by omega)
    rw [e1]; refine ⟨by omega, ?_⟩
    norm_num; omega
  · intro k a
    rw [off3_eq j v h0 h1 k]
    have := row_lt j v h0 h1 k
    fin_cases a
    · show j.val + 1 + k.val + 1 ≤ 40; omega
    · show 0 + 512 ≤ 512; omega
  · rw [t3_loop_eq]
    unfold Scf.Loop.OK Scf.OK
    simp only
    have ht : Scf.trips v v 1#32 = 0 := by
      have := t3_trips j v
      rw [t3_loop_eq] at this
      exact this
    rw [e1]; refine ⟨by omega, ?_⟩
    norm_num; omega
  · intro k
    have := k.isLt
    have h3 := t3_trips j v
    exact absurd this (by omega)

end

end Cert.Proof.KI

end
-- ==== Proof.KI.Mem.lean ====
/-
  Loads and stores of whole blocks and of single rows through an owned memref, stated on what the memref reads; and the
  kernel's `scf.while` met by its label.
-/
module

public import proofs.«01_k».proof.Proof.KI.Setup
public import proofs.«01_k».proof.Proof.KI.Step
public import proofs.«01_k».proof.Proof.KI.Words
public import Idealize.ShloMosaic.Lib.VecWindow
public import Idealize.ShloMosaic.Lib.WholeRead

@[expose] public section

set_option maxRecDepth 16384

noncomputable section

namespace Cert.Proof.KI

open Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The labels' variants: natural numbers, the rounds the while may still run. -/
abbrev 𝒱₀ : Variants := Variants.nat

section Rows

variable (c : Dev nD) (bd : Option ℕ) (E : Set ℕ) {M : Memref sig .tc .vmem S40x512 .f32} (x : Vec F S40x512 .f32)

/-- The row a window at `![i, 0]` names. -/
theorem window_row (i : ℕ) (hi : i < 40) (inb : ∀ a, (![i, 0] : Fin 2 → ℕ) a + S1x512.size a ≤ S40x512.size a) :
    VecWindow.window (s := S40x512) x ![i, 0] S1x512.size inb = rowOf x i := by
  funext y
  show x _ = x _
  refine congrArg x (funext fun a => Fin.ext ?_)
  have h0 : (y 0).val = 0 := by have := (y 0).isLt; exact Nat.lt_one_iff.mp this
  match a with
  | ⟨0, _⟩ =>
    show i + 1 * (y 0).val = i % 40
    rw [h0, Nat.mod_eq_of_lt hi]; omega
  | ⟨1, _⟩ => show 0 + 1 * (y 1).val = (y 1).val; omega

/-- A row put over a 40 × 512 array. -/
theorem put_row (i : ℕ) (w : Vec F S1x512 .f32) : VecWindow.put (s := S40x512) x ![i, 0] S1x512.size w = setRow x i w := by
  funext y
  unfold VecWindow.put setRow
  by_cases h : (y 0).val = i
  · have hm : ∀ a, (![i, 0] : Fin 2 → ℕ) a ≤ (y a).val ∧ (y a).val < (![i, 0] : Fin 2 → ℕ) a + S1x512.size a := fun a => by
      match a with
      | ⟨0, _⟩ => exact ⟨h.ge, by show (y 0).val < i + 1; omega⟩
      | ⟨1, _⟩ => exact ⟨Nat.zero_le _, by show (y 1).val < 0 + 512; have := (y 1).isLt; exact (Nat.zero_add 512).symm ▸ this⟩
    rw [if_pos h, dif_pos hm]
    refine congrArg w (funext fun a => Fin.ext ?_)
    match a with
    | ⟨0, _⟩ => show (y 0).val - i = 0; omega
    | ⟨1, _⟩ => show (y 1).val - 0 = (y 1).val; omega
  · rw [if_neg h, dif_neg fun hm => h ?_]
    have := hm (0 : Fin 2)
    have h1 : i ≤ (y 0).val := this.1
    have h2 : (y 0).val < i + 1 := this.2
    omega

/-- A row loaded. -/
theorem row_load {α : Type} {Q : α → sProp 𝕄} {off : Fin 2 → ℕ} {inb : ∀ a, off a + S1x512.size a ≤ S40x512.size a}
    {hl : M.view.LoadsAt (Rect.unit (s := S40x512) off S1x512.size inb).toLoadRect}
    {k : Vec F S1x512 .f32 → Prog (TpuEff nD τ sig (Elt F) (Λ₀ F) .tc) α} (i : ℕ) (hi : i < 40) (ho : off = ![i, 0]) :
    owns (c : Thread nD τ) M fullShare x
      ⊢ iprop((owns (c : Thread nD τ) M fullShare x -∗ wp (M := 𝕄) frame (wpE (defs₀ (F := F)) 𝒱₀ c bd) E (k (rowOf x i)) Q)
        -∗ wp frame (wpE (defs₀ (F := F)) 𝒱₀ c bd) E (.op (.load M (Rect.unit (s := S40x512) off S1x512.size inb).toLoadRect hl) k) Q) := by
  subst ho
  unfold owns
  iintro ⟨%f, %hf, H⟩ Hk
  iapply (wp_load 𝒱₀ (c : Thread nD τ) bd E (m := M) (View.setOn_subset_set _ _)) $$ H
  iintro H
  have e : M.view.readAt (Elt F) (Rect.unit (s := S40x512) ![i, 0] S1x512.size inb).toLoadRect f = rowOf x i := by
    rw [View.readAt_unit M.view f inb rfl inb, hf]; exact window_row x i hi inb
  rw [e]
  iapply Hk
  iexists f; isplitr; · ipureintro; exact hf
  iexact H

/-- A row stored. -/
theorem row_store {α : Type} {Q : α → sProp 𝕄} {off : Fin 2 → ℕ} {inb : ∀ a, off a + S1x512.size a ≤ S40x512.size a} {w : Vec F S1x512 .f32}
    {hx : (M.access (Rect.unit (s := S40x512) off S1x512.size inb)).Stores Finset.univ}
    {hm : (Finset.univ : Finset (Rect.unit (s := S40x512) off S1x512.size inb).shape.Idx) = Finset.univ
      ∨ ∀ a, (Rect.unit (s := S40x512) off S1x512.size inb).stride a = 1}
    {k : PUnit → Prog (TpuEff nD τ sig (Elt F) (Λ₀ F) .tc) α} (i : ℕ) (ho : off = ![i, 0]) :
    owns (c : Thread nD τ) M fullShare x
      ⊢ iprop((owns (c : Thread nD τ) M fullShare (setRow x i w) -∗ wp (M := 𝕄) frame (wpE (defs₀ (F := F)) 𝒱₀ c bd) E (k ⟨⟩) Q)
        -∗ wp frame (wpE (defs₀ (F := F)) 𝒱₀ c bd) E (.op (.store M (Rect.unit (s := S40x512) off S1x512.size inb) w Finset.univ hx hm) k) Q) := by
  subst ho
  unfold owns
  iintro ⟨%f, %hf, H⟩ Hk
  iapply (wp_store 𝒱₀ (c : Thread nD τ) bd E (m := M) (r := Rect.unit (s := S40x512) ![i, 0] S1x512.size inb) (Mk := Finset.univ)
    (View.set_slice_subset _ _)) $$ H
  iintro H
  iapply Hk
  iexists _; isplitr
  swap; · iexact H
  ipureintro
  have e := View.read_writes_cons_put (Val := Elt F) M.view f inb w [] rfl
  rw [View.writes_nil, hf, put_row] at e
  exact e

/-- A whole block loaded. -/
theorem whole_load {α : Type} {Q : α → sProp 𝕄} {inb : ∀ a, (![0, 0] : Fin 2 → ℕ) a + S40x512.size a ≤ S40x512.size a}
    {hl : M.view.LoadsAt (Rect.unit (s := S40x512) ![0, 0] S40x512.size inb).toLoadRect}
    {k : Vec F S40x512 .f32 → Prog (TpuEff nD τ sig (Elt F) (Λ₀ F) .tc) α} :
    owns (c : Thread nD τ) M fullShare x
      ⊢ iprop((owns (c : Thread nD τ) M fullShare x -∗ wp (M := 𝕄) frame (wpE (defs₀ (F := F)) 𝒱₀ c bd) E (k x) Q)
        -∗ wp frame (wpE (defs₀ (F := F)) 𝒱₀ c bd) E (.op (.load M (Rect.unit (s := S40x512) ![0, 0] S40x512.size inb).toLoadRect hl) k) Q) := by
  unfold owns
  iintro ⟨%f, %hf, H⟩ Hk
  iapply (wp_load 𝒱₀ (c : Thread nD τ) bd E (m := M) (View.setOn_subset_set _ _)) $$ H
  iintro H
  have e : M.view.readAt (Elt F) (Rect.unit (s := S40x512) ![0, 0] S40x512.size inb).toLoadRect f = x :=
    (View.readAt_full M.view f inb).trans hf
  rw [e]
  iapply Hk
  iexists f; isplitr; · ipureintro; exact hf
  iexact H

/-- A whole block stored. -/
theorem whole_store {α : Type} {Q : α → sProp 𝕄} {inb : ∀ a, (![0, 0] : Fin 2 → ℕ) a + S40x512.size a ≤ S40x512.size a} {w : Vec F S40x512 .f32}
    {hx : (M.access (Rect.unit (s := S40x512) ![0, 0] S40x512.size inb)).Stores Finset.univ}
    {hm : (Finset.univ : Finset (Rect.unit (s := S40x512) ![0, 0] S40x512.size inb).shape.Idx) = Finset.univ
      ∨ ∀ a, (Rect.unit (s := S40x512) ![0, 0] S40x512.size inb).stride a = 1}
    {k : PUnit → Prog (TpuEff nD τ sig (Elt F) (Λ₀ F) .tc) α} :
    owns (c : Thread nD τ) M fullShare x
      ⊢ iprop((owns (c : Thread nD τ) M fullShare w -∗ wp (M := 𝕄) frame (wpE (defs₀ (F := F)) 𝒱₀ c bd) E (k ⟨⟩) Q)
        -∗ wp frame (wpE (defs₀ (F := F)) 𝒱₀ c bd) E (.op (.store M (Rect.unit (s := S40x512) ![0, 0] S40x512.size inb) w Finset.univ hx hm) k) Q) := by
  unfold owns
  iintro ⟨%f, %hf, H⟩ Hk
  iapply (wp_store 𝒱₀ (c : Thread nD τ) bd E (m := M) (r := Rect.unit (s := S40x512) ![0, 0] S40x512.size inb) (Mk := Finset.univ)
    (View.set_slice_subset _ _)) $$ H
  iintro H
  iapply Hk
  iexists _; isplitr
  swap; · iexact H
  ipureintro
  have e := View.read_writes_full (Val := Elt F) M.view f inb w []
  exact e

end Rows

/-- One word of the table of range ends loaded. -/
theorem word_load {α : Type} {Q : α → sProp 𝕄} (c : Dev nD) (bd : Option ℕ) (E : Set ℕ) {M : Memref sig .tc .smem S40 .i32} (x : Vec F S40 .i32)
    {off : Fin 1 → ℕ} {inb : ∀ a, off a + S1.size a ≤ S40.size a}
    {hl : M.view.LoadsAt (Rect.unit (s := S40) off S1.size inb).toLoadRect}
    {k : Vec F S1 .i32 → Prog (TpuEff nD τ sig (Elt F) (Λ₀ F) .tc) α} (i : ℕ) (hi : i < 40) (ho : off = ![i]) :
    owns (c : Thread nD τ) M fullShare x
      ⊢ iprop((owns (c : Thread nD τ) M fullShare x -∗ wp (M := 𝕄) frame (wpE (defs₀ (F := F)) 𝒱₀ c bd) E (k (fun _ => endOf (F := F) x i)) Q)
        -∗ wp frame (wpE (defs₀ (F := F)) 𝒱₀ c bd) E (.op (.load M (Rect.unit (s := S40) off S1.size inb).toLoadRect hl) k) Q) := by
  subst ho
  unfold owns
  iintro ⟨%f, %hf, H⟩ Hk
  iapply (wp_load 𝒱₀ (c : Thread nD τ) bd E (m := M) (View.setOn_subset_set _ _)) $$ H
  iintro H
  have e : M.view.readAt (Elt F) (Rect.unit (s := S40) ![i] S1.size inb).toLoadRect f = fun _ => endOf (F := F) x i := by
    rw [View.readAt_unit M.view f inb rfl inb, hf]
    funext y
    refine congrArg x (funext fun a => Fin.ext ?_)
    match a with
    | ⟨0, h0⟩ =>
      have hy : (y ⟨0, h0⟩).val < 1 := (y ⟨0, h0⟩).isLt
      show i + 1 * (y ⟨0, h0⟩).val = i % 40
      rw [Nat.mod_eq_of_lt hi]
      omega
  rw [e]
  iapply Hk
  iexists f; isplitr; · ipureintro; exact hf
  iexact H

/-- A pure specification at a postcondition. -/
theorem pure_at {α : Type} (a : α) (K : α → sProp 𝕄) : (pure a : sWPT 𝕄 α) K = K a := rfl

/-- The while's label, entered with `k` rounds to run at most, returns what `k` rounds reach, once those rounds end it. -/
theorem while_meets (c : Dev nD) (E : Set ℕ) (t1 : Fin k0_t1_loop.trips) (act : FVec F S512 .f32) (ov : FVec F S512x512 .f32) :
    ∀ (k : ℕ) (s : FVec F S512 .f32 × BitVec 32), ¬ wgo (wrun act ov k s) →
      (pure (wrun act ov k s) : sWPT 𝕄 (FVec F S512 .f32 × BitVec 32))
        ≤ wp frame (wpE (defs₀ (F := F)) 𝒱₀ (c : Thread nD τ) (some k)) E (defs₀ (F := F) .tc 1 ⟨t1, act, ov, s.1, s.2⟩) := by
  intro k
  induction k with
  | zero =>
    intro s hs K
    show K s ⊢ wp frame (wpE (defs₀ (F := F)) 𝒱₀ (c : Thread nD τ) (some 0)) E (cc0_while1 t1 act ov s.1 s.2) K
    simp only [cc0_while1_eq_skeleton]; unfold cc0_while1_skel
    have hs' : ¬ Scalar.cmpi .sgt s.2 0#32 = 1#1 := hs
    simp only [hs', ↓reduceIte, Prog.pure_eq_ret]
    iintro H
    rw [wp_ret]; imodintro
    iexact H
  | succ k ih =>
    intro s hs K
    by_cases hg : wgo s
    · have er : wrun act ov (k + 1) s = wrun act ov k (wstep act ov s) := by rw [wrun, if_pos hg]
      rw [er] at hs
      show K (wrun act ov (k + 1) s) ⊢ wp frame (wpE (defs₀ (F := F)) 𝒱₀ (c : Thread nD τ) (some (k + 1))) E (cc0_while1 t1 act ov s.1 s.2) K
      rw [er]
      simp only [cc0_while1_eq_skeleton]; unfold cc0_while1_skel
      have hg' : Scalar.cmpi .sgt s.2 0#32 = 1#1 := hg
      simp only [hg', ↓reduceIte, Prog.lift, Prog.pure_eq_ret]
      iintro H
      iapply (wp_call_spec 𝒱₀ (c : Thread nD τ) (some (k + 1)) E (pure (wrun act ov k (wstep act ov s))) k
        (fun u hu => by cases hu; exact Nat.lt_succ_self k) (ih (wstep act ov s) hs))
      rw [pure_at, wp_ret]
      imodintro
      iexact H
    · have er : wrun act ov (k + 1) s = s := by rw [wrun, if_neg hg]
      show K (wrun act ov (k + 1) s) ⊢ wp frame (wpE (defs₀ (F := F)) 𝒱₀ (c : Thread nD τ) (some (k + 1))) E (cc0_while1 t1 act ov s.1 s.2) K
      rw [er]
      simp only [cc0_while1_eq_skeleton]; unfold cc0_while1_skel
      have hs' : ¬ Scalar.cmpi .sgt s.2 0#32 = 1#1 := hg
      simp only [hs', ↓reduceIte, Prog.pure_eq_ret]
      iintro H
      rw [wp_ret]; imodintro
      iexact H

end Cert.Proof.KI

end
-- ==== Proof.KI.Body.lean ====
/-
  The kernel body's triple: one push trip, the push loop of one block, one trip of the outer loop, the outer loop, and the
  whole body. Holding the six input buffers, the result buffer and the activity scratch, the body leaves the inputs as they
  were and the result at `keepOut`.
-/
module

public import proofs.«01_k».proof.Proof.KI.Mem
public import proofs.«01_k».proof.Proof.Gen.KernelIdeal

@[expose] public section

set_option maxRecDepth 16384

noncomputable section

namespace Cert.Proof.KI

open Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ)
  (arg0 : Memref sig .tc .smem S40 .i32) (harg0 : arg0.IsWhole) (arg1 : Memref sig .tc .vmem S40x512 .f32) (harg1 : arg1.IsWhole)
  (arg2 : Memref sig .tc .vmem S40x512 .f32) (harg2 : arg2.IsWhole) (arg3 : Memref sig .tc .vmem S40x512 .f32) (harg3 : arg3.IsWhole)
  (arg4 : Memref sig .tc .vmem S40x512 .f32) (harg4 : arg4.IsWhole) (arg5 : Memref sig .tc .vmem S40x512 .f32) (harg5 : arg5.IsWhole)
  (arg6 : Memref sig .tc .vmem S40x512 .f32) (harg6 : arg6.IsWhole) (arg7 : Memref sig .tc .vmem S40x512 .f32) (harg7 : arg7.IsWhole)
  (x0 : Vec F S40 .i32) (x1 x2 x3 x4 x5 : Vec F S40x512 .f32)

/-- The five float input buffers held at their blocks. -/
def ins : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5)

/-- One push: the row `j + 1 + k` of the activity scratch becomes `pushRow`. -/
theorem push_trip (j : Fin k0_t1_loop.trips) (v : BitVec 32) (hv0 : 0 ≤ v.toInt) (hv : v.toInt ≤ 40) (hw : k0_chk1 j v)
    (w8 w107 : BitVec 32) (a b : Vec F S40x512 .f32) (r : FVec F S512 .f32) (hr : r = retOf x1 x2 x3 x4 x5 j a)
    (k : Fin (k0_t2_loop j v).trips) (acc : Unit) :
    iprop(ins c arg1 arg2 arg3 arg4 arg5 x1 x2 x3 x4 x5 ∗ owns (c : Thread nD τ) arg7 fullShare b)
      ⊢ wp (M := 𝕄) frame (wpE (defs₀ (F := F)) 𝒱₀ c none) E
        (k0_t2_body arg0 harg0 arg1 harg1 arg2 harg2 arg3 harg3 arg4 harg4 arg5 harg5 arg6 harg6 arg7 harg7 k0_pay1 (unitOf x3 x4) j w8 (areaOf x1 x2 x3 x4 x5 j) (c1Of x1 x3 x4 x5 j) (c2Of x2 x3 x4 x5 j)
          (c3Of x3 x4 x5 j) (c4Of x3 x4 x5 j) (caOf x1 x2 x3 x4 x5 j) (k0_pay33 (rowOf a j)) (wdOf x1 x3 x4 x5 j) (htOf x2 x3 x4 x5 j)
          r w107 v hw k acc)
        (fun _ => iprop(ins c arg1 arg2 arg3 arg4 arg5 x1 x2 x3 x4 x5
          ∗ owns (c : Thread nD τ) arg7 fullShare (setRow b (j + 1 + k) (pushRow x1 x2 x3 x4 x5 j a (j + 1 + k) b)))) := by
  subst hr
  have ho := off3_eq j v hv0 hv k
  have hlt := row_lt j v hv0 hv k
  unfold k0_t2_body
  simp only [k0_part1_eq_skeleton]; unfold k0_part1_skel
  simp only [Prog.lift, Prog.bind_op, Prog.bind_ret, Prog.pure_eq_ret]
  unfold ins
  iintro ⟨⟨H1, H2, H3, H4, H5⟩, H7⟩
  iapply (row_load c none E x5 _ hlt ho) $$ H5; iintro H5
  iapply (row_load c none E x1 _ hlt ho) $$ H1; iintro H1
  iapply (row_load c none E x2 _ hlt ho) $$ H2; iintro H2
  iapply (row_load c none E x3 _ hlt ho) $$ H3; iintro H3
  iapply (row_load c none E x4 _ hlt ho) $$ H4; iintro H4
  iapply (row_load c none E b _ hlt ho) $$ H7; iintro H7
  iapply (row_load c none E b _ hlt ho) $$ H7; iintro H7
  iapply (row_store c none E b _ ho) $$ H7; iintro H7
  rw [wp_ret]; imodintro
  isplitl [H1 H2 H3 H4 H5]
  · isplitl [H1]; · iexact H1
    isplitl [H2]; · iexact H2
    isplitl [H3]; · iexact H3
    isplitl [H4]; · iexact H4
    iexact H5
  iexact H7

/-- One trip of the outer loop: row `j` of the result becomes the block's keep row, the scratch is pushed onto. -/
theorem outer_trip (hstop : Stops F) (j : Fin k0_t1_loop.trips) (hv0 : 0 ≤ (endOf (F := F) x0 j).toInt) (hv : (endOf (F := F) x0 j).toInt ≤ 40)
    (a f6 : Vec F S40x512 .f32) (acc : Unit) :
    iprop(owns (c : Thread nD τ) arg0 fullShare x0 ∗ ins c arg1 arg2 arg3 arg4 arg5 x1 x2 x3 x4 x5
        ∗ owns (c : Thread nD τ) arg6 fullShare f6 ∗ owns (c : Thread nD τ) arg7 fullShare a)
      ⊢ wp (M := 𝕄) frame (wpE (defs₀ (F := F)) 𝒱₀ c none) E (k0_t1_body arg0 harg0 arg1 harg1 arg2 harg2 arg3 harg3 arg4 harg4 arg5 harg5 arg6 harg6 arg7 harg7 x3 x4 j acc)
        (fun _ => iprop(owns (c : Thread nD τ) arg0 fullShare x0 ∗ ins c arg1 arg2 arg3 arg4 arg5 x1 x2 x3 x4 x5
          ∗ owns (c : Thread nD τ) arg6 fullShare (setRow f6 j (keepRow x1 x2 x3 x4 x5 j a))
          ∗ owns (c : Thread nD τ) arg7 fullShare (pushN x1 x2 x3 x4 x5 j a (reach (F := F) x0 j)))) := by
  have hj := t1_lt j
  have ho := k0_off1_eq j
  have ho2 := k0_off2_eq j
  unfold k0_t1_body
  simp only [k0_part3_eq_skeleton]; unfold k0_part3_skel
  simp only [Prog.lift, Prog.bind_op, Prog.bind_ret, Prog.pure_eq_ret]
  unfold ins
  iintro ⟨H0, ⟨H1, H2, H3, H4, H5⟩, H6, H7⟩
  iapply (row_load c none E x5 _ hj ho) $$ H5; iintro H5
  iapply (row_load c none E x1 _ hj ho) $$ H1; iintro H1
  iapply (row_load c none E x2 _ hj ho) $$ H2; iintro H2
  iapply (row_load c none E x3 _ hj ho) $$ H3; iintro H3
  iapply (row_load c none E x4 _ hj ho) $$ H4; iintro H4
  iapply (row_load c none E a _ hj ho) $$ H7; iintro H7
  simp only [k0_part4_eq_skeleton]; unfold k0_part4_skel
  simp only [smemLoad, smemLoadElt, Prog.lift, Prog.bind_op, Prog.bind_ret, Prog.pure_eq_ret]
  iapply (wp_call_spec 𝒱₀ (c : Thread nD τ) none E
    (pure (wrun (k0_pay33 (rowOf a j)) (ovDiag x1 x2 x3 x4 x5 j) 513 (wstart (F := F)))) 513
    (fun u hu => nomatch hu) (while_meets c E j _ _ 513 (wstart (F := F)) (hstop _ _)))
  rw [pure_at]
  rcases hw : wrun (k0_pay33 (rowOf a j)) (ovDiag x1 x2 x3 x4 x5 j) 513 (wstart (F := F)) with ⟨r, fl⟩
  have hr : r = retOf x1 x2 x3 x4 x5 j a := by unfold retOf; rw [hw]
  simp only [Prog.lift, Prog.bind_op, Prog.bind_ret, Prog.pure_eq_ret]
  iapply (row_load c none E f6 _ hj ho) $$ H6; iintro H6
  iapply (row_store c none E f6 _ ho) $$ H6; iintro H6
  iapply (word_load c none E x0 _ hj ho2) $$ H0; iintro H0
  iapply (wp_assume 𝒱₀ (c : Thread nD τ) none E (chk_of_range j (endOf (F := F) x0 j) hv0 hv))
  rw [wp_bind]
  iapply (Scf.wp_for_bind frame (wpE (defs₀ (F := F)) 𝒱₀ (c : Thread nD τ) none) E _ _ _ _ PUnit.unit _
    (fun (k : ℕ) (_ : Unit) => iprop(ins c arg1 arg2 arg3 arg4 arg5 x1 x2 x3 x4 x5
      ∗ owns (c : Thread nD τ) arg7 fullShare (pushN x1 x2 x3 x4 x5 j a k)))
    (fun k acc => push_trip c E arg0 harg0 arg1 harg1 arg2 harg2 arg3 harg3 arg4 harg4 arg5 harg5 arg6 harg6 arg7 harg7 x1 x2 x3 x4 x5 j (endOf (F := F) x0 j) hv0 hv (chk_of_range j (endOf (F := F) x0 j) hv0 hv) _ _ a _ r hr k acc)) $$ [H1 H2 H3 H4 H5 H7]
  · unfold ins
    isplitl [H1 H2 H3 H4 H5]
    · isplitl [H1]; · iexact H1
      isplitl [H2]; · iexact H2
      isplitl [H3]; · iexact H3
      isplitl [H4]; · iexact H4
      iexact H5
    iexact H7
  iintro %acc' ⟨HI, H7⟩
  rw [wp_ret]; imodintro
  iapply (Scf.wp_for_bind frame (wpE (defs₀ (F := F)) 𝒱₀ (c : Thread nD τ) none) E _ _ _ _ PUnit.unit _
    (fun (k : ℕ) (_ : Unit) => iprop(True)) (fun k acc => absurd k.isLt (by
      have := t3_trips j (endOf (F := F) x0 j)
      intro hk
      exact absurd (lt_of_lt_of_eq hk this) (Nat.not_lt_zero _)))) $$ []
  · ipureintro; trivial
  iintro %acc2 -
  rw [wp_ret]; imodintro
  isplitl [H0]; · iexact H0
  isplitl [HI]; · unfold ins; iexact HI
  isplitl [H6]
  · unfold keepRow
    rw [← hr]
    iexact H6
  have et := t2_trips j (endOf (F := F) x0 j)
  have et' : reach (F := F) x0 j = (k0_t2_loop j (endOf (F := F) x0 j)).trips := et.symm
  rw [et']
  iexact H7

/-- The kernel body. -/
theorem body_runs (hstop : Stops F) (hv : ∀ j < 40, 0 ≤ (endOf (F := F) x0 j).toInt ∧ (endOf (F := F) x0 j).toInt ≤ 40) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2
          ∗ owns (c : Thread nD τ) arg3 fullShare x3 ∗ owns (c : Thread nD τ) arg4 fullShare x4 ∗ owns (c : Thread nD τ) arg5 fullShare x5
          ∗ owns (c : Thread nD τ) arg6 fullShare (keepOut x0 x1 x2 x3 x4 x5) ∗ (∃ d, owns (c : Thread nD τ) arg7 fullShare d)) -∗ K ⟨⟩))
      ⊢ wp (M := 𝕄) frame (wpE (defs₀ (F := F)) 𝒱₀ c none) E (cc0__nms_body arg0 harg0 arg1 harg1 arg2 harg2 arg3 harg3 arg4 harg4 arg5 harg5 arg6 harg6 arg7 harg7) K := by
  simp only [cc0__nms_body_eq_skeleton]; unfold cc0__nms_body_skel
  simp only [Prog.lift, Prog.bind_op, Prog.bind_ret, Prog.pure_eq_ret]
  iintro ⟨H0, H1, H2, H3, H4, H5, ⟨%d6, H6⟩, ⟨%d7, H7⟩, Hk⟩
  iapply (whole_load c none E x3) $$ H3; iintro H3
  iapply (whole_load c none E x4) $$ H4; iintro H4
  iapply (whole_load c none E d7) $$ H7; iintro H7
  iapply (whole_store c none E d7) $$ H7; iintro H7
  iapply (Scf.wp_for_bind frame (wpE (defs₀ (F := F)) 𝒱₀ (c : Thread nD τ) none) E _ _ _ _ PUnit.unit _
    (fun (k : ℕ) (_ : Unit) => iprop(owns (c : Thread nD τ) arg0 fullShare x0 ∗ ins c arg1 arg2 arg3 arg4 arg5 x1 x2 x3 x4 x5
      ∗ (∃ f6, ⌜∀ y : S40x512.Idx, (y 0).val < k → f6 y = keepOut x0 x1 x2 x3 x4 x5 y⌝ ∗ owns (c : Thread nD τ) arg6 fullShare f6)
      ∗ owns (c : Thread nD τ) arg7 fullShare (actN x0 x1 x2 x3 x4 x5 k))) (fun k acc => ?trip)) $$ [H0 H1 H2 H3 H4 H5 H6 H7]
  case trip =>
    iintro ⟨H0, HI, ⟨%f6, %hf6, H6⟩, H7⟩
    have hk := t1_lt k
    iapply (wp_wand_r frame (wpE (defs₀ (F := F)) 𝒱₀ (c : Thread nD τ) none) E)
    isplitl [H0 HI H6 H7]
    · iapply (outer_trip c E arg0 harg0 arg1 harg1 arg2 harg2 arg3 harg3 arg4 harg4 arg5 harg5 arg6 harg6 arg7 harg7 x0 x1 x2 x3 x4 x5 hstop k (hv k hk).1 (hv k hk).2 (actN x0 x1 x2 x3 x4 x5 k) f6 acc)
      isplitl [H0]; · iexact H0
      isplitl [HI]; · iexact HI
      isplitl [H6]; · iexact H6
      iexact H7
    iintro %acc' ⟨H0, HI, H6, H7⟩
    isplitl [H0]; · iexact H0
    isplitl [HI]; · iexact HI
    isplitl [H6]
    · iexists _; isplitr
      swap; · iexact H6
      ipureintro
      intro y hy
      unfold setRow
      by_cases hyk : (y 0).val = k.val
      · rw [if_pos hyk, ← hyk]; rfl
      · rw [if_neg hyk]; exact hf6 y (by omega)
    iexact H7
  · isplitl [H0]; · iexact H0
    isplitl [H1 H2 H3 H4 H5]
    · unfold ins
      isplitl [H1]; · iexact H1
      isplitl [H2]; · iexact H2
      isplitl [H3]; · iexact H3
      isplitl [H4]; · iexact H4
      iexact H5
    isplitl [H6]
    · iexists _; isplitr
      swap; · iexact H6
      ipureintro
      intro y hy
      exact absurd hy (Nat.not_lt_zero _)
    iexact H7
  unfold ins
  iintro %acc' ⟨H0, ⟨H1, H2, H3, H4, H5⟩, ⟨%f6, %hf6, H6⟩, H7⟩
  rw [wp_ret]; imodintro
  iapply Hk
  have hfin : f6 = keepOut x0 x1 x2 x3 x4 x5 := funext fun y => hf6 y (by
    have h40 : k0_t1_loop.trips = 40 := trips_eq
    have hy : (y 0).val < 40 := (y 0).isLt
    exact lt_of_lt_of_eq hy h40.symm)
  subst hfin
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.Proof.KI

end
-- ==== Proof.KI.Run.lean ====
/-
  The program's run: what each window holds after the one grid point, the body obligation, the launch, and the frame. The
  two facts asked for are that the while stops (`Stops`) and that the table of range ends holds block numbers (`EndsOk`).
-/
module

public import proofs.«01_k».proof.Proof.KI.Body
public import Idealize.ShloMosaic.Lib.Claim

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every word of the table of range ends, as the region finds it, is between 0 and the number of blocks. -/
def EndsOk : Prop :=
  ∀ (c : Dev nD) (t : Fin (cfg0 (F := F)).N), ∀ j < 40,
    0 ≤ (endOf (F := F) (iblk m c 0 t) j).toInt ∧ (endOf (F := F) (iblk m c 0 t) j).toInt ≤ 40

/-- What the result's staging buffer holds after the body. -/
def outsAt (c : Dev nD) (t : Fin (cfg0 (F := F)).N) : Vec F S40x512 .f32 :=
  keepOut (iblk m c 0 t) (iblk m c 1 t) (iblk m c 2 t) (iblk m c 3 t) (iblk m c 4 t) (iblk m c 5 t)

/-- The pipeline's proof data: the arrays as the region finds them, each input's buffer at its block after the body, the
    result's at `outsAt`; nothing owed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t)
  Φ _ := Pipeline.ΦA spec0 c
  q _ := fullShare
  owed _ := 0

/-- The arrays the pipeline begins with. -/
theorem A_eq (c : Dev nD) (w : Fin (cfg0 (F := F)).W) : (dats m 0 c).A w = V m c (Pipeline.arrRef spec0 w) := by
  dsimp only [dats]

/-- Each window after a step: the inputs as they were, the output the kernel's result. -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = outsAt m c t := by dsimp only [dats]; rfl

/-- Each input window before a step. -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

variable (hstop : Stops F) (hends : EndsOk m)

include hstop hends in
set_option maxHeartbeats 800000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (body_runs c Set.univ _ _ _ _ _ _ _ _ _ _ _ _ _ _ _ _ (iblk m c 0 t) (iblk m c 1 t) (iblk m c 2 t) (iblk m c 3 t)
    (iblk m c 4 t) (iblk m c 5 t) hstop (hends c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

include hstop hends in
/-- The body obligation, at every point. -/
theorem body_obligation (c : Dev nD) : BodyObligation (dats (F := F) m 0 c) (defs₀ (F := F)) 𝒱₀ () Set.univ := fun t => by
  rw [bigSep_W0, bigSep_W0, defs₀_row]
  exact triple_restated (sound_body m hstop hends c t) rfl .rfl fun _ => .rfl

include hstop hends in
-- the launch theorem's implicit arguments are found by unifying its conclusion with this one, which takes unfolding plain
-- definitions in a metavariable's type
set_option backward.isDefEq.respectTransparency.types false in
set_option maxHeartbeats 800000 in
/-- The launch: every final state has the arrays at what the proof data say, the other buffers as the host lines after the
    region leave them, and every semaphore at zero. -/
theorem run_main_quiescent : θ_run defs (onTc (τ := τ) (main (F := F))) (s₀ m ρ) (fun r => (Pipeline.FramePost (cfgs (F := F)) (dats m) 0 (Pipeline.afterTail₀ (cfgs (F := F)) (dats m) 0 (V0 m) [hostOps1, hostOps1_1, hostOps1_2, hostOps1_3])) r ∧ r.2.sem = fun _ => 0) :=
  Pipeline.θ_run_frame_around (Q' := _) (cfgs (F := F)) (dats m) (0 : Fin 1) launch0 defs₀ 𝒱₀ m ρ main
    (hbody := fun c => (body_obligation m hstop hends c).loose) (hshare := fun c => (dats m 0 c).share_full fun _ => rfl)
    (howed := fun _ _ => rfl) (V₀ := V0 m) (opss := [hostOps1, hostOps1_1, hostOps1_2, hostOps1_3]) (hsub := sfx_sub) (hfresh := sfx_fresh) (hkeep := sfx_keeps)
    (hmain := hmain m 𝒱₀) (hA := A_eq m) (hΦ := fun _ _ => rfl)

include hstop hends in
/-- The kernel's run, with every buffer after it. -/
theorem run_main : θ_run defs (onTc (τ := τ) (main (F := F))) (s₀ m ρ) (Pipeline.FramePost (cfgs (F := F)) (dats m) 0 (Pipeline.afterTail₀ (cfgs (F := F)) (dats m) 0 (V0 m) [hostOps1, hostOps1_1, hostOps1_2, hostOps1_3])) :=
  (θ_run defs _ _).mono (fun _ h => h.1) (run_main_quiescent m ρ hstop hends)

include hstop hends in
/-- The frame: the argument arrays end unchanged and the semaphores at zero. -/
theorem frame_of_facts : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ hstop hends)) ((θ_run defs _ _).mono (fun _ h => h.2) (run_main_quiescent m ρ hstop hends))

end Cert.Proof.KI

end
-- ==== Proof.KI.Host.lean ====
/-
  What the host hands the kernel, at any float values: each window's block is the whole host array, and every word of the
  table of range ends is a count of at most 40.
-/
module
public import proofs.«01_k».proof.Proof.KI.Run
public import Idealize.ShloMosaic.Lib.StableHlo.RunRead
public import Idealize.ShloMosaic.Lib.IndicatorCount
@[expose] public section

open Cert.KernelIdeal Cert.KernelIdeal.Gen
open Idealize.ShloMosaic Idealize.ShloMosaic.TcCoe Idealize.ShloMosaic.Tactic
namespace Cert.Proof.KI
variable {F : FTy → Type} [FloatOps F]
variable (m : (ℓ : Loc nD τ sig) → Buf (Elt F) ℓ)
/-- Each window's block is the whole of its host array. -/
theorem iblk0 (c : Dev nD) (t : Fin (cfg0 (F := F)).N) : iblk m c 0 t = V m c main_v26 := by
  unfold iblk
  generalize V m c = W
  funext (y : S40.Idx)
  refine congrArg (W main_v26) (funext fun a => Fin.ext ?_)
  match a with
  | ⟨0, _⟩ => show 0 * 40 + 1 * (y 0).val = (y 0).val; omega
/-- The next input windows: the blocked arrays themselves. -/
theorem iblk1 (c : Dev nD) (t : Fin (cfg0 (F := F)).N) : iblk m c 1 t = V m c main_v29 := by
  unfold iblk
  generalize V m c = W
  funext (y : S40x512.Idx)
  refine congrArg (W main_v29) (funext fun a => Fin.ext ?_)
  match a with
  | ⟨0, _⟩ => show 0 * 40 + 1 * (y 0).val = (y 0).val; omega
  | ⟨1, _⟩ => show 0 * 512 + 1 * (y 1).val = (y 1).val; omega
theorem iblk2 (c : Dev nD) (t : Fin (cfg0 (F := F)).N) : iblk m c 2 t = V m c main_v31 := by
  unfold iblk
  generalize V m c = W
  funext (y : S40x512.Idx)
  refine congrArg (W main_v31) (funext fun a => Fin.ext ?_)
  match a with
  | ⟨0, _⟩ => show 0 * 40 + 1 * (y 0).val = (y 0).val; omega
  | ⟨1, _⟩ => show 0 * 512 + 1 * (y 1).val = (y 1).val; omega
theorem iblk3 (c : Dev nD) (t : Fin (cfg0 (F := F)).N) : iblk m c 3 t = V m c main_v35 := by
  unfold iblk
  generalize V m c = W
  funext (y : S40x512.Idx)
  refine congrArg (W main_v35) (funext fun a => Fin.ext ?_)
  match a with
  | ⟨0, _⟩ => show 0 * 40 + 1 * (y 0).val = (y 0).val; omega
  | ⟨1, _⟩ => show 0 * 512 + 1 * (y 1).val = (y 1).val; omega
theorem iblk4 (c : Dev nD) (t : Fin (cfg0 (F := F)).N) : iblk m c 4 t = V m c main_v39 := by
  unfold iblk
  generalize V m c = W
  funext (y : S40x512.Idx)
  refine congrArg (W main_v39) (funext fun a => Fin.ext ?_)
  match a with
  | ⟨0, _⟩ => show 0 * 40 + 1 * (y 0).val = (y 0).val; omega
  | ⟨1, _⟩ => show 0 * 512 + 1 * (y 1).val = (y 1).val; omega
theorem iblk5 (c : Dev nD) (t : Fin (cfg0 (F := F)).N) : iblk m c 5 t = V m c main_v41 := by
  unfold iblk
  generalize V m c = W
  funext (y : S40x512.Idx)
  refine congrArg (W main_v41) (funext fun a => Fin.ext ?_)
  match a with
  | ⟨0, _⟩ => show 0 * 40 + 1 * (y 0).val = (y 0).val; omega
  | ⟨1, _⟩ => show 0 * 512 + 1 * (y 1).val = (y 1).val; omega

/-- A row sum of 40 compare bits is a count of at most 40. -/
theorem ends_card (A B : Vec F S40x40 .i32) (j : S40.Idx) :
    ∃ n : ℕ, n ≤ 40 ∧ Host.reduce IntOp.addi (extui 32 (cmpi .sle A B) natLt_1_32) (constantI S_ 32 0#32)
      reducesTo_S40x40_S40_d1 h_S_ j = BitVec.ofNat 32 n := by
  rw [Host.reduce_eq_fold_single IntOp.addi _ _ _ (by decide : S40x40.Reduces [1] S40) h_S_]
  refine ⟨_, ?_, IndicatorCount.fold_addi_setWidth_eq_card (w := 32) (fun k => cmpi .sle A B ((by decide : S40x40.Reduces [1] S40).lift j k)) _⟩
  refine (Finset.card_filter_le _ _).trans ?_
  exact le_of_eq (Finset.card_fin 40)
/-- The range ends lie between 0 and 40. -/
theorem endsOk : EndsOk (F := F) m := by
  intro c t j hj
  unfold endOf
  rw [iblk0]
  have key : ∃ A B : Vec F S40x40 .i32, V m c main_v26 = Host.reduce IntOp.addi (extui 32 (cmpi .sle A B) natLt_1_32) (constantI S_ 32 0#32)
      reducesTo_S40x40_S40_d1 h_S_ := by
    unfold V V0
    simp only [List.flatten_cons, List.flatten_nil, List.append_nil]
    after_reads_simp
    exact ⟨_, _, rfl⟩
  obtain ⟨A, B, e⟩ := key
  obtain ⟨n, hn, h⟩ := ends_card A B (ValueIdx.ix1 (rw40 j))
  rw [e, h, BitVec.toInt_eq_toNat_of_lt (by rw [BitVec.toNat_ofNat]; omega), BitVec.toNat_ofNat]
  omega
end Cert.Proof.KI
-- ==== Proof.KI.Stops.lean ====
/-
  The kernel's while stops: each round that leaves the flag up retires a new lane of 512. Only the arithmetic of the two
  words 0 and 1 enters, gathered in `Arith01`, which holds both for words and for extended reals.
-/
module

public import proofs.«01_k».proof.Proof.KI.Step

@[expose] public section

noncomputable section

namespace Cert.Proof.KI

open Cert.KernelIdeal Cert.KernelIdeal.Gen

open Idealize.ShloMosaic Idealize.ShloMosaic.ValueIdx

/-- Zero and one as f32 values. -/
abbrev f0 (F : FTy → Type) [FloatOps F] : F .f32 := Scalar.ofBits .f32 0x00000000#32
/-- The word of one. -/
abbrev f1 (F : FTy → Type) [FloatOps F] : F .f32 := Scalar.ofBits .f32 0x3F800000#32

/-- The arithmetic of zeros and ones that the while needs. -/
structure Arith01 (F : FTy → Type) [FloatOps F] : Prop where
  ne : f0 F ≠ f1 F
  sub0 : FloatOps.subf (f1 F) (f0 F) = f1 F
  sub1 : FloatOps.subf (f1 F) (f1 F) = f0 F
  mul00 : FloatOps.mulf (f0 F) (f0 F) = f0 F
  mul01 : FloatOps.mulf (f0 F) (f1 F) = f0 F
  mul10 : FloatOps.mulf (f1 F) (f0 F) = f0 F
  mul11 : FloatOps.mulf (f1 F) (f1 F) = f1 F
  add00 : FloatOps.addf (f0 F) (f0 F) = f0 F
  add01 : FloatOps.addf (f0 F) (f1 F) = f1 F
  add10 : FloatOps.addf (f1 F) (f0 F) = f1 F
  sum0 : ∀ x : FVec F S1x512 .f32, (∀ i, x i = f0 F) → ∀ j,
    Scalar.cmpf .ogt (multiReduction .add [1] S1 x 0x00000000#32 reduces_S1x512_S1 (.inl rfl) rfl j) (f0 F) = 0#1

variable {F : FTy → Type} [FloatOps F]

/-- All lanes are 0 or 1. -/
def Is01 (r : FVec F S512 .f32) : Prop := ∀ l, r l = f0 F ∨ r l = f1 F

open Classical in
/-- The number of lanes at 1. -/
def ones (r : FVec F S512 .f32) : ℕ := (Finset.univ.filter fun l : Fin 512 => r (ix1 l) = f1 F).card

/-- A newly retired lane is 1 only where the lane was not yet retired; else 0. -/
theorem newly_lane (A : Arith01 F) (act : FVec F S512 .f32) (ov : FVec F S512x512 .f32) (r : FVec F S512 .f32) (hr : Is01 r) (l : S512.Idx) :
    k0_pay5 act ov r l = f0 F ∨ (k0_pay5 act ov r l = f1 F ∧ r l = f0 F) := by
  have e : ∃ b : BitVec 1, k0_pay5 act ov r l = FloatOps.mulf (if b = 1#1 then f1 F else f0 F) (FloatOps.subf (f1 F) (r l)) := ⟨_, rfl⟩
  obtain ⟨b, e⟩ := e
  rw [e]
  rcases hr l with h | h <;> rw [h]
  · rw [A.sub0]
    split
    · exact .inr ⟨A.mul11, rfl⟩
    · exact .inl A.mul01
  · rw [A.sub1]
    split
    · exact .inl A.mul10
    · exact .inl A.mul00

/-- Retired lanes stay 0 or 1, and stay retired. -/
theorem step_lane (A : Arith01 F) (act : FVec F S512 .f32) (ov : FVec F S512x512 .f32) (r : FVec F S512 .f32) (hr : Is01 r) (l : S512.Idx) :
    (k0_pay6 act ov r l = r l ∧ k0_pay5 act ov r l = f0 F) ∨ (k0_pay6 act ov r l = f1 F ∧ r l = f0 F) := by
  have e : k0_pay6 act ov r l = FloatOps.addf (r l) (k0_pay5 act ov r l) := rfl
  rw [e]
  rcases newly_lane A act ov r hr l with h | ⟨h, h'⟩
  · rw [h]
    rcases hr l with h' | h' <;> rw [h']
    · exact .inl ⟨A.add00, rfl⟩
    · exact .inl ⟨A.add10, rfl⟩
  · rw [h, h']
    exact .inr ⟨A.add01, rfl⟩

/-- A round keeps the retired row of zeros and ones. -/
theorem step_is01 (A : Arith01 F) (act : FVec F S512 .f32) (ov : FVec F S512x512 .f32) (r : FVec F S512 .f32) (hr : Is01 r) :
    Is01 (k0_pay6 act ov r) := fun l => by
  rcases step_lane A act ov r hr l with h | h
  · rw [h.1]; exact hr l
  · exact .inr h.1

/-- A sum not above zero takes the flag down. -/
theorem flag_down (x : F .f32) (h : Scalar.cmpf .ogt x (f0 F) = 0#1) :
    ¬ Scalar.cmpi .sgt (Scalar.extui (Scalar.cmpf .ogt x (Scalar.ofBits .f32 0x00000000#32)) : BitVec 32) 0#32 = 1#1 := by
  rw [show Scalar.cmpf .ogt x (Scalar.ofBits .f32 0x00000000#32) = 0#1 from h]
  decide

/-- A round that leaves the flag up retires at least one lane more. -/
theorem step_ones (A : Arith01 F) (act : FVec F S512 .f32) (ov : FVec F S512x512 .f32) (s : FVec F S512 .f32 × BitVec 32) (hr : Is01 s.1)
    (hgo : wgo (wstep act ov s)) : ones s.1 + 1 ≤ ones (wstep act ov s).1 := by
  classical
  have hex : ∃ l : S512.Idx, k0_pay5 act ov s.1 l ≠ f0 F := by
    by_contra hall
    push Not at hall
    have z : Scalar.cmpf .ogt (k0_pay7 act ov s.1) (f0 F) = 0#1 :=
      A.sum0 (shapeCast S1x512 (k0_pay5 act ov s.1) shapeCasts_S512_S1x512) (fun i => hall _) _
    exact flag_down (k0_pay7 act ov s.1) z hgo
  obtain ⟨l, hl⟩ := hex
  refine Finset.card_lt_card ⟨fun k hk => ?_, fun hsub => ?_⟩
  · rw [Finset.mem_filter] at hk ⊢
    refine ⟨hk.1, ?_⟩
    rcases step_lane A act ov s.1 hr (ix1 k) with h | h
    · exact h.1.trans hk.2
    · exact h.1
  · rcases step_lane A act ov s.1 hr l with h | h
    · exact hl h.2
    · obtain ⟨k, rfl⟩ : ∃ k : Fin 512, l = ix1 k := ⟨l 0, eq_ix1 l⟩
      have hm : k ∈ (Finset.univ.filter fun k : Fin 512 => (wstep act ov s).1 (ix1 k) = f1 F) :=
        Finset.mem_filter.2 ⟨Finset.mem_univ _, h.1⟩
      have := (Finset.mem_filter.1 (hsub hm)).2
      exact A.ne (h.2.symm.trans this)

/-- The flag goes up only from a round that began with it up. -/
theorem go_of_run (act : FVec F S512 .f32) (ov : FVec F S512x512 .f32) (n : ℕ) (s : FVec F S512 .f32 × BitVec 32)
    (h : wgo (wrun act ov n s)) : wgo s := by
  cases n with
  | zero => exact h
  | succ n =>
    by_contra hs
    rw [wrun, if_neg hs] at h
    exact hs h

/-- At most 512 lanes are retired. -/
theorem ones_le (r : FVec F S512 .f32) : ones r ≤ 512 := by
  unfold ones
  classical
  refine (Finset.card_filter_le _ _).trans ?_
  exact le_of_eq (Finset.card_fin 512)

/-- A while still going after `n` rounds has retired `n` lanes. -/
theorem run_bound (A : Arith01 F) (act : FVec F S512 .f32) (ov : FVec F S512x512 .f32) :
    ∀ (n : ℕ) (s : FVec F S512 .f32 × BitVec 32), Is01 s.1 → wgo (wrun act ov n s) → ones s.1 + n ≤ 512
  | 0, s, _, _ => ones_le s.1
  | n + 1, s, hr, h => by
    have hs := go_of_run act ov _ s h
    rw [wrun, if_pos hs] at h
    have h1 := run_bound A act ov n (wstep act ov s) (step_is01 A act ov s.1 hr) h
    have h2 := step_ones A act ov s hr (go_of_run act ov n _ h)
    omega

/-- Every while of the kernel stops within 513 rounds. -/
theorem stops (A : Arith01 F) : Stops F := fun act ov h => by
  have := run_bound A act ov 513 _ (fun _ => .inl rfl) h
  omega

end Cert.Proof.KI

end
-- ==== Proof.KI.StopsIdeal.lean ====
/-
  The arithmetic of zeros and ones over the extended reals, and the stopping of the kernel's while there.
-/
module

public import proofs.«01_k».proof.Proof.KI.Stops
public import Idealize.ShloMosaic.Lib.IdealHost
public import Idealize.ShloMosaic.PureOps.Ideal

@[expose] public section

noncomputable section

namespace Cert.Proof.KI

open Cert.KernelIdeal Cert.KernelIdeal.Gen

open Idealize.ShloMosaic Idealize.ShloMosaic.ValueIdx

/-- Zero's and one's words, read. -/
theorem f0_ideal : f0 Ideal = (0 : EReal) := Ideal.ofBits_zero_f32
theorem f1_ideal : f1 Ideal = (1 : EReal) := Ideal.ofBits_one_f32

/-- Zeros and ones of the extended reals. -/
theorem arith_ideal : Arith01 Ideal where
  ne := by rw [f0_ideal, f1_ideal]; exact zero_ne_one
  sub0 := by rw [f0_ideal, f1_ideal]; exact sub_zero (1 : EReal)
  sub1 := by
    rw [f0_ideal, f1_ideal]
    show (1 : EReal) - 1 = 0
    exact EReal.sub_self (by decide) (by decide)
  mul00 := by rw [f0_ideal]; exact zero_mul (0 : EReal)
  mul01 := by rw [f0_ideal, f1_ideal]; exact zero_mul (1 : EReal)
  mul10 := by rw [f0_ideal, f1_ideal]; exact mul_zero (1 : EReal)
  mul11 := by rw [f1_ideal]; exact mul_one (1 : EReal)
  add00 := by rw [f0_ideal]; exact add_zero (0 : EReal)
  add01 := by rw [f0_ideal, f1_ideal]; exact zero_add (1 : EReal)
  add10 := by rw [f0_ideal, f1_ideal]; exact add_zero (1 : EReal)
  sum0 := fun x hx j => by
    have e : multiReduction (F := Ideal) .add [1] S1 x 0x00000000#32 reduces_S1x512_S1 (.inl rfl) rfl j = (0 : EReal) := by
      rw [show x = fun _ => (0 : EReal) from funext fun i => (hx i).trans f0_ideal]
      exact (Ideal.reduceAdd_single reduces_S1x512_S1 _ j).trans (Finset.sum_eq_zero fun _ _ => rfl)
    rw [e, f0_ideal]
    show BitVec.ofBool (decide ((0 : EReal) < 0)) = 0#1
    simp

/-- The whiles stop over the extended reals. -/
theorem stops_ideal : Stops Ideal := stops arith_ideal

end Cert.Proof.KI

end
-- ==== Proof.K.StopsBits.lean ====
/-
  The arithmetic of zeros and ones over f32 words, and the stopping of the kernel's while there.
-/
module

public import proofs.«01_k».proof.Proof.K.Stops
public import Idealize.ShloMosaic.Lib.NatWordsOrder

@[expose] public section

noncomputable section

namespace Cert.Proof.K

open Cert.Kernel Cert.Kernel.Gen

open Idealize.ShloMosaic Idealize.ShloMosaic.ValueIdx

/-- Zero's and one's words, as naturals. -/
theorem f0_bits : f0 Bits = Bits.f32OfNat 0 := Bits.f32OfNat_zero.symm
theorem f1_bits : f1 Bits = Bits.f32OfNat 1 := by
  rw [Bits.f32OfNat_eq 1 (by decide)]; decide

/-- Zeros and ones of the f32 words. -/
theorem arith_bits : Arith01 Bits where
  ne := by decide
  sub0 := by rw [f0_bits, f1_bits]; exact Bits.subf32_nat 1 0 (by decide) (by decide)
  sub1 := by rw [f0_bits, f1_bits]; exact Bits.subf32_nat 1 1 (by decide) (by decide)
  mul00 := by rw [f0_bits]; exact Bits.mulf32_nat 0 0 (by decide) (by decide) (by decide)
  mul01 := by rw [f0_bits, f1_bits]; exact Bits.mulf32_nat 0 1 (by decide) (by decide) (by decide)
  mul10 := by rw [f0_bits, f1_bits]; exact Bits.mulf32_nat 1 0 (by decide) (by decide) (by decide)
  mul11 := by rw [f1_bits]; exact Bits.mulf32_nat 1 1 (by decide) (by decide) (by decide)
  add00 := by rw [f0_bits]; exact Bits.addf32_nat 0 0 (by decide)
  add01 := by rw [f0_bits, f1_bits]; exact Bits.addf32_nat 0 1 (by decide)
  add10 := by rw [f0_bits, f1_bits]; exact Bits.addf32_nat 1 0 (by decide)
  sum0 := fun x hx j => by
    have hz : ∀ i, Bits.natOfF32? (x i) = some 0 := fun i => by
      rw [hx i, f0_bits]; exact Bits.natOfF32?_f32OfNat 0 (by decide)
    have e := Bits.multiReduction_add_nat [1] reduces_S1x512_S1 x j (fun _ => 0) (fun i _ => hz i) (by simp)
    rw [Finset.sum_const_zero] at e
    rw [e, f0_bits]
    refine (Bits.cmpf32_ogt_nat (a := 0) (b := 0) (by decide) (by decide)).trans ?_
    decide

/-- The whiles stop at f32 words. -/
theorem stops_bits : Stops Bits := stops arith_bits

end Cert.Proof.K

end
-- ==== Proof.Nms.Order.lean ====
/-
  Greedy suppression on positions, and that it does not depend on which of two orders the boxes are visited in, so long as
  the two orders agree on every pair that can overlap.
-/
module

public import Mathlib.Data.Fintype.EquivFin
public import Mathlib.Order.WellFounded

@[expose] public section

namespace Cert.Proof.Nms

/-- Position `b` is kept: no earlier kept position overlaps it. -/
def keepAt (ov : ℕ → ℕ → Prop) (b : ℕ) : Prop := ∀ a, (h : a < b) → keepAt ov a → ¬ ov a b
termination_by b

/-- The greedy rule. -/
theorem keepAt_iff (ov : ℕ → ℕ → Prop) (b : ℕ) : keepAt ov b ↔ ∀ a, a < b → keepAt ov a → ¬ ov a b := by
  rw [keepAt]

/-- A relation on indices, read at positions through the order `σ`. -/
def onPos {n : ℕ} (σ : Fin n → Fin n) (ov : Fin n → Fin n → Prop) (a b : ℕ) : Prop :=
  ∃ (ha : a < n) (hb : b < n), ov (σ ⟨a, ha⟩) (σ ⟨b, hb⟩)

/-- Only the relation below `n` matters to a position below `n`. -/
theorem keepAt_congr (ov ov' : ℕ → ℕ → Prop) (n : ℕ) (h : ∀ a b, a < b → b < n → (ov a b ↔ ov' a b)) :
    ∀ b, b < n → (keepAt ov b ↔ keepAt ov' b) := by
  intro b
  induction b using Nat.strong_induction_on with
  | _ b ih =>
    intro hb
    rw [keepAt_iff, keepAt_iff]
    refine forall_congr' fun a => forall_congr' fun ha => ?_
    rw [ih a ha (by omega), h a b ha hb]

/-- Two orders that agree on the pairs of one class keep the same indices, when only boxes of one class overlap. -/
theorem keepAt_perm {n : ℕ} {C : Type} (σ τ : Fin n → Fin n) (hσ : Function.Surjective σ) (hτ : Function.Surjective τ)
    (cls : Fin n → C) (ov : Fin n → Fin n → Prop) (hov : ∀ p q, ov p q → cls p = cls q)
    (hord : ∀ a b a' b', σ a' = τ a → σ b' = τ b → cls (τ a) = cls (τ b) → (a < b ↔ a' < b')) :
    ∀ (a' : ℕ) (ha' : a' < n) (a : Fin n), σ ⟨a', ha'⟩ = τ a → (keepAt (onPos σ ov) a' ↔ keepAt (onPos τ ov) a.val) := by
  intro a'
  induction a' using Nat.strong_induction_on with
  | _ a' ih =>
    intro ha' a e
    rw [keepAt_iff, keepAt_iff]
    constructor
    · intro h b hb kb ⟨h1, h2, o⟩
      obtain ⟨b', hb'⟩ := hσ (τ ⟨b, h1⟩)
      have lt : b' < ⟨a', ha'⟩ := (hord ⟨b, h1⟩ a b' ⟨a', ha'⟩ hb' e (hov _ _ o)).mp hb
      refine h b'.val lt ((ih b'.val lt b'.2 ⟨b, h1⟩ hb').mpr kb) ⟨b'.2, ha', ?_⟩
      rw [e]
      exact hb'.symm ▸ o
    · intro h b' hb' kb ⟨h1, h2, o⟩
      obtain ⟨b, hb⟩ := hτ (σ ⟨b', h1⟩)
      rw [e, ← hb] at o
      have lt : b < a := (hord b a ⟨b', h1⟩ ⟨a', ha'⟩ hb.symm e (hov _ _ o)).mpr hb'
      exact h b.val lt ((ih b' hb' h1 b hb.symm).mp kb) ⟨b.2, a.2, o⟩

end Cert.Proof.Nms

end
-- ==== Proof.Nms.Stable.lean ====
/-
  A stable sort of `n` positions by a key of a linear order lists them in the order of (key, position).
-/
module

public import Idealize.ShloMosaic.Lib.SortFacts
public import Mathlib.Data.Prod.Lex

@[expose] public section

namespace Cert.Proof.Nms

open Idealize.ShloMosaic

/-- On a list in ascending order a stable sort never uses more of its relation than "before, or tied and earlier". -/
theorem stableSort_ascending {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_ascending R R' h l hl.2]
    refine insertBefore_congr R R' a _ fun b hb => h a b (hl.1 b ?_)
    exact (perm_stableSort R' l).mem_iff.mp hb

/-- The sorted positions ascend by (key, position). -/
theorem sortedFrom_strictMono {n : ℕ} {α : Type} [LinearOrder α] (f : Fin n → α) (R : Fin n → Fin n → Bool)
    (h : ∀ p q, R p q = decide (f p < f q)) :
    StrictMono fun i => (toLex (f (sortedFrom R i), sortedFrom R i) : α ×ₗ Fin n) := by
  let B : Fin n → Fin n → Bool := fun p q => decide ((toLex (f p, p) : α ×ₗ Fin n) < toLex (f q, q))
  have e : sortedFrom R = sortedFrom B := by
    have : sortPositions n R = sortPositions n B := by
      refine stableSort_ascending R B (fun a b hab => ?_) _ (List.pairwise_lt_finRange n)
      rw [h]
      refine decide_eq_decide.mpr ?_
      rw [Prod.Lex.toLex_lt_toLex]
      constructor
      · exact fun x => .inl x
      · rintro (x | ⟨_, x⟩)
        · exact x
        · exact absurd x (not_lt.mpr hab.le)
    funext k
    unfold sortedFrom
    rw [List.get_of_eq this]
    rfl
  rw [e]
  intro i j hij
  have := sortedFrom_noInversion B B
    (fun a b hab => decide_eq_false (not_lt.mpr (of_decide_eq_true hab).le)) (fun _ _ x => x)
    (fun a b c h1 h2 => decide_eq_false (not_lt.mpr
      ((not_lt.mp (of_decide_eq_false h2)).trans (not_lt.mp (of_decide_eq_false h1))))) i j hij
  refine lt_of_le_of_ne (not_lt.mp (of_decide_eq_false this)) fun e' => ?_
  have := congrArg (fun x => (ofLex x).2) e'
  exact hij.ne (sortedFrom_injective B this)

/-- Two stable sorts, one by a key and one by a class and then that key, agree on the pairs of one class. -/
theorem sorts_agree {n : ℕ} {α β : Type} [LinearOrder α] [LinearOrder β] (cls : Fin n → β) (f : Fin n → α)
    (R R' : Fin n → Fin n → Bool) (h : ∀ p q, R p q = decide (f p < f q))
    (h' : ∀ p q, R' p q = decide ((toLex (cls p, f p) : β ×ₗ α) < toLex (cls q, f q)))
    (a b a' b' : Fin n) (ea : sortedFrom R a' = sortedFrom R' a) (eb : sortedFrom R b' = sortedFrom R' b)
    (ec : cls (sortedFrom R' a) = cls (sortedFrom R' b)) : a < b ↔ a' < b' := by
  rw [← (sortedFrom_strictMono f R h).lt_iff_lt (a := a') (b := b'),
    ← (sortedFrom_strictMono (fun p => (toLex (cls p, f p) : β ×ₗ α)) R' h').lt_iff_lt (a := a) (b := b)]
  simp only [ea, eb, Prod.Lex.toLex_lt_toLex, ec, lt_self_iff_false, false_or, true_and, EmbeddingLike.apply_eq_iff_eq,
    Prod.mk.injEq]

end Cert.Proof.Nms

end
-- ==== Proof.Nms.Iou.lean ====
/-
  The overlap test on extended reals, and that two boxes of different classes, offset apart, never pass it.
-/
module

public import Idealize.ShloMosaic.PureOps.Ideal.Laws
public import Idealize.ShloMosaic.Lib.IdealHost

@[expose] public section

noncomputable section

namespace Cert.Proof.Nms

open Idealize.ShloMosaic

/-- The threshold, one half. -/
def half : EReal := Scalar.ofBits (F := Ideal) .f32 0x3F000000#32

/-- The area of the intersection of two boxes given by their two corners. -/
def inter (a b : Fin 4 → EReal) : EReal :=
  max 0 (min (a 2) (b 2) - max (a 0) (b 0)) * max 0 (min (a 3) (b 3) - max (a 1) (b 1))

/-- The area of a box. -/
def area (a : Fin 4 → EReal) : EReal := (a 2 - a 0) * (a 3 - a 1)

/-- The ratio of the intersection to the union. -/
def iou (a b : Fin 4 → EReal) : EReal := Ideal.div (inter a b) (area a + area b - inter a b)

/-- The two boxes overlap by more than the threshold. -/
def over (a b : Fin 4 → EReal) : Prop := half < iou a b

/-- The threshold is not negative. -/
theorem half_nonneg : (0 : EReal) ≤ half := by
  have : half = ((1 / 2 : ℝ) : EReal) := by
    show Ideal.ofBits .f32 0x3F000000#32 = _
    simp [Ideal.ofBits, Ideal.ieee]
    rw [← EReal.coe_mul]
    norm_num
  rw [this]
  exact_mod_cast (by norm_num : (0 : ℝ) ≤ 1 / 2)

/-- Boxes that do not meet do not overlap. -/
theorem not_over_of_inter (a b : Fin 4 → EReal) (h : inter a b = 0) : ¬ over a b := by
  unfold over iou Ideal.div
  rw [h]
  split
  · simp
  · rw [zero_mul]; exact not_lt.mpr half_nonneg

/-- Offset by different multiples of a unit wider than every box's reach along the first axis, two boxes do not meet. -/
theorem not_over_of_class (a b : Fin 4 → EReal) (x y : Fin 4 → ℝ) (M : ℝ) (s t : ℤ) (hM : 0 ≤ M)
    (hx : 0 ≤ x 0 ∧ x 2 ≤ M) (hy : 0 ≤ y 0 ∧ y 2 ≤ M)
    (ha : ∀ k, a k = ((x k + s * (M + 1) : ℝ) : EReal)) (hb : ∀ k, b k = ((y k + t * (M + 1) : ℝ) : EReal)) (hst : s ≠ t) :
    ¬ over a b := by
  apply not_over_of_inter
  have gap : ∀ (u v : ℤ) (p q : ℝ), u < v → p ≤ M → 0 ≤ q → p + u * (M + 1) ≤ q + v * (M + 1) := by
    intro u v p q huv hp hq
    have h1 : ((u : ℝ) + 1) ≤ v := by exact_mod_cast huv
    nlinarith [mul_le_mul_of_nonneg_right h1 (by linarith : (0 : ℝ) ≤ M + 1)]
  have key : min (a 2) (b 2) - max (a 0) (b 0) ≤ 0 := by
    rw [ha, ha, hb, hb, ← EReal.coe_strictMono.monotone.map_min, ← EReal.coe_strictMono.monotone.map_max, ← EReal.coe_sub]
    refine EReal.coe_nonpos.mpr (sub_nonpos.mpr ?_)
    rcases lt_or_gt_of_ne hst with h | h
    · exact (min_le_left _ _).trans ((gap s t _ _ h hx.2 hy.1).trans (le_max_right _ _))
    · exact (min_le_right _ _).trans ((gap t s _ _ h hy.2 hx.1).trans (le_max_left _ _))
  unfold inter
  rw [max_eq_left key, zero_mul]

/-- The length of the overlap of two intervals moved together. -/
theorem overlap_move (p q r w t : ℝ) : min ((p + t : ℝ) : EReal) ((q + t : ℝ) : EReal) - max ((r + t : ℝ) : EReal) ((w + t : ℝ) : EReal)
    = min (p : EReal) q - max (r : EReal) w := by
  simp only [← EReal.coe_strictMono.monotone.map_min, ← EReal.coe_strictMono.monotone.map_max, ← EReal.coe_sub]
  rw [min_add_add_right, max_add_add_right, add_sub_add_right_eq_sub]

/-- The length of an interval moved. -/
theorem length_move (p q t : ℝ) : ((p + t : ℝ) : EReal) - ((q + t : ℝ) : EReal) = (p : EReal) - q := by
  rw [← EReal.coe_sub, ← EReal.coe_sub, add_sub_add_right_eq_sub]

/-- Two boxes moved together overlap as before. -/
theorem over_move (a b a' b' : Fin 4 → EReal) (x y : Fin 4 → ℝ) (t : ℝ) (ha : ∀ k, a k = (x k : EReal)) (hb : ∀ k, b k = (y k : EReal))
    (ha' : ∀ k, a' k = ((x k + t : ℝ) : EReal)) (hb' : ∀ k, b' k = ((y k + t : ℝ) : EReal)) : over a' b' ↔ over a b := by
  have hi : inter a' b' = inter a b := by
    unfold inter
    simp only [ha, hb, ha', hb', overlap_move]
  have hA : area a' = area a := by
    unfold area
    simp only [ha, ha', length_move]
  have hB : area b' = area b := by
    unfold area
    simp only [hb, hb', length_move]
  unfold over iou
  rw [hi, hA, hB]

end Cert.Proof.Nms

end
-- ==== Proof.Nms.Spec.lean ====
/-
  What both programs compute from the boxes, the scores and the classes: the order of the scores, the offset boxes, which
  positions are kept, and the two results. And when the classes' order gives the same answer as the scores' order.
-/
module

public import proofs.«01_k».proof.Proof.Nms.Order
public import proofs.«01_k».proof.Proof.Nms.Stable
public import proofs.«01_k».proof.Proof.Nms.Iou

@[expose] public section

noncomputable section

namespace Cert.Proof.Nms

open Idealize.ShloMosaic

variable {n : ℕ} (bx : Fin n → Fin 4 → EReal) (sc : Fin n → EReal) (cl : Fin n → BitVec 32)

/-- The greatest coordinate. -/
def mx : EReal := Finset.univ.sup fun p => Finset.univ.sup (bx p)

/-- A bound on the greatest coordinate bounds every coordinate. -/
theorem mx_le_iff (c : EReal) : mx bx ≤ c ↔ ∀ p k, bx p k ≤ c := by
  simp [mx, Finset.sup_le_iff]

/-- The box moved by its class's multiple of one more than the greatest coordinate. -/
def offBox (p : Fin n) (k : Fin 4) : EReal := bx p k + ((((cl p).toInt : ℝ) : EReal)) * (mx bx + 1)

/-- The order of descending score. -/
def scoreSort : Fin n → Fin n := sortedFrom fun p q => decide (-sc p < -sc q)

/-- The order of ascending class, within a class of descending score. -/
def classSort : Fin n → Fin n :=
  sortedFrom fun p q => decide ((toLex ((cl p).toInt, -sc p) : ℤ ×ₗ EReal) < toLex ((cl q).toInt, -sc q))

/-- Two rows' offset boxes overlap. -/
def overlaps (p q : Fin n) : Prop := over (offBox bx cl p) (offBox bx cl q)

/-- Position `i` of the score order is kept. -/
def kept (i : ℕ) : Prop := keepAt (onPos (scoreSort sc) (overlaps bx cl)) i

open Classical in
/-- The first result: the kept positions' indices, -1 elsewhere. -/
def resIdx (i : Fin n) : BitVec 32 := if kept bx sc cl i then BitVec.ofNat 32 (scoreSort sc i).val else 4294967295#32

open Classical in
/-- The second result: the kept positions' scores, 0 elsewhere. -/
def resScore (i : Fin n) : EReal := if kept bx sc cl i then sc (scoreSort sc i) else 0

/-- The boxes are proper: finite, not negative. -/
def Proper : Prop := ∀ p k, 0 ≤ bx p k ∧ bx p k < ⊤

variable {bx}

/-- A proper box's coordinates are real. -/
theorem Proper.real (h : Proper bx) (p : Fin n) (k : Fin 4) : bx p k = ((bx p k).toReal : EReal) :=
  (EReal.coe_toReal (h p k).2.ne (fun e => by have := (h p k).1; rw [e] at this; exact absurd this (by simp))).symm

/-- The box moved by its class's multiple of a unit. -/
def offBy (bx : Fin n → Fin 4 → EReal) (cl : Fin n → BitVec 32) (u : EReal) (p : Fin n) (k : Fin 4) : EReal :=
  bx p k + ((((cl p).toInt : ℝ) : EReal)) * u

/-- Moved by multiples of one more than a bound on the boxes' far first coordinates, boxes overlap exactly when their classes
    are the same and they overlap where they were. -/
theorem over_offBy (h : Proper bx) (M : EReal) (hM : 0 ≤ M) (hT : M < ⊤) (hb : ∀ p, bx p 2 ≤ M) (p q : Fin n) :
    over (offBy bx cl (M + 1) p) (offBy bx cl (M + 1) q) ↔ (cl p).toInt = (cl q).toInt ∧ over (bx p) (bx q) := by
  have eM : M = (M.toReal : EReal) := (EReal.coe_toReal hT.ne (fun e => by rw [e] at hM; exact absurd hM (by simp))).symm
  have hM' : 0 ≤ M.toReal := EReal.toReal_nonneg hM
  have hle : ∀ p, (bx p 2).toReal ≤ M.toReal := fun p => by
    have := hb p
    rw [h.real p 2, eM, EReal.coe_le_coe_iff] at this
    exact this
  have hoff : ∀ p k, offBy bx cl (M + 1) p k = (((bx p k).toReal + (cl p).toInt * (M.toReal + 1) : ℝ) : EReal) := by
    intro p k
    unfold offBy
    rw [EReal.coe_add, EReal.coe_mul, EReal.coe_add, ← h.real p k, ← eM]
    rfl
  by_cases e : (cl p).toInt = (cl q).toInt
  · rw [and_iff_right e]
    refine over_move _ _ _ _ (fun k => (bx p k).toReal) (fun k => (bx q k).toReal) ((cl q).toInt * (M.toReal + 1)) (h.real p) (h.real q)
      (fun k => ?_) (hoff q)
    rw [hoff p k, e]
  · refine iff_of_false ?_ fun o => e o.1
    exact not_over_of_class _ _ (fun k => (bx p k).toReal) (fun k => (bx q k).toReal) M.toReal _ _ hM'
      ⟨EReal.toReal_nonneg (h p 0).1, hle p⟩ ⟨EReal.toReal_nonneg (h q 0).1, hle q⟩ (hoff p) (hoff q) e

variable (bx)

/-- The offset boxes overlap exactly when their classes are the same and the boxes overlap. -/
theorem overlaps_iff (h : Proper bx) (p q : Fin n) : overlaps bx cl p q ↔ (cl p).toInt = (cl q).toInt ∧ over (bx p) (bx q) := by
  have hle : ∀ p k, bx p k ≤ mx bx := (mx_le_iff bx _).mp le_rfl
  have hlt : mx bx < ⊤ := by
    unfold mx
    rw [Finset.sup_lt_iff (by simp)]
    intro p _
    rw [Finset.sup_lt_iff (by simp)]
    exact fun k _ => (h p k).2
  exact over_offBy cl h (mx bx) ((h p 0).1.trans (hle p 0)) hlt (fun p => hle p 2) p q

/-- Boxes of different classes do not overlap. -/
theorem overlaps_class (h : Proper bx) (p q : Fin n) (o : overlaps bx cl p q) : (cl p).toInt = (cl q).toInt :=
  ((overlaps_iff bx cl h p q).mp o).1

/-- The greatest far coordinate. -/
def mxFar : EReal := Finset.univ.sup fun p => max (bx p 2) (bx p 3)

/-- A bound on it bounds every far coordinate. -/
theorem mxFar_le_iff (c : EReal) : mxFar bx ≤ c ↔ ∀ p, bx p 2 ≤ c ∧ bx p 3 ≤ c := by
  simp [mxFar, Finset.sup_le_iff]

/-- Offset by multiples of one more than the greatest far coordinate, the boxes overlap just as the offset boxes do. -/
theorem over_far_iff (h : Proper bx) (p q : Fin n) :
    over (offBy bx cl (mxFar bx + 1) p) (offBy bx cl (mxFar bx + 1) q) ↔ overlaps bx cl p q := by
  have hle := (mxFar_le_iff bx _).mp le_rfl
  have hlt : mxFar bx < ⊤ := by
    unfold mxFar
    rw [Finset.sup_lt_iff (by simp)]
    exact fun p _ => max_lt (h p 2).2 (h p 3).2
  rw [overlaps_iff bx cl h]
  exact over_offBy cl h (mxFar bx) ((h p 2).1.trans (hle p).1) hlt (fun p => (hle p).1) p q

/-- The class order keeps the same boxes as the score order. -/
theorem kept_iff (h : Proper bx) (i a : Fin n) (e : scoreSort sc i = classSort sc cl a) :
    kept bx sc cl i ↔ keepAt (onPos (classSort sc cl) (overlaps bx cl)) a :=
  keepAt_perm (scoreSort sc) (classSort sc cl) (sortedFrom_surjective _) (sortedFrom_surjective _)
    (fun p => (cl p).toInt) (overlaps bx cl) (overlaps_class bx cl h)
    (fun a b a' b' ea eb ec => sorts_agree (fun p => (cl p).toInt) (fun p => -sc p) _ _ (fun _ _ => rfl) (fun _ _ => rfl)
      a b a' b' ea eb ec) i.val i.2 a e

end Cert.Proof.Nms

end
-- ==== Proof.Nms.Read.lean ====
/-
  A printed stable sort along a vector, read at a position; and the printed float order on extended reals.
-/
module

public import proofs.«01_k».proof.Proof.Nms.Spec
public import Idealize.ShloMosaic.Lib.Pointwise

@[expose] public section

noncomputable section

namespace Cert.Proof.Nms

open Idealize.ShloMosaic

/-- One operand of a stable sort along a vector: entry `i` is the entry of the position sorted to `i`. -/
theorem sortBy_at {n : ℕ} {ι α : Type} (cmp : ι → ι → BitVec 1) (rows : (⟨1, ![n]⟩ : Shape).Idx → ι) (x : (⟨1, ![n]⟩ : Shape).Idx → α)
    (R : Fin n → Fin n → Bool) (h : ∀ p q, (cmp (rows (ix1 p)) (rows (ix1 q)) == 1#1) = R p q) (i : Fin n) :
    Host.sortBy ⟨1, ![n]⟩ 0 cmp rows x (ix1 i) = x (ix1 (sortedFrom R i)) := by
  have al : ∀ (j : (⟨1, ![n]⟩ : Shape).Idx) (k : Fin n), j.along (0 : Fin 1) k = ix1 k := fun j k => by
    funext a
    match a with
    | ⟨0, _⟩ => exact Function.update_self ..
  have e : (fun k k' : Fin n => cmp (rows ((ix1 i : (⟨1, ![n]⟩ : Shape).Idx).along (0 : Fin 1) k)) (rows ((ix1 i : (⟨1, ![n]⟩ : Shape).Idx).along (0 : Fin 1) k')) == 1#1) = R := by
    funext p q
    rw [al, al, h]
  show x ((ix1 i : (⟨1, ![n]⟩ : Shape).Idx).along (0 : Fin 1) (sortedFrom (fun k k' : Fin n => cmp (rows ((ix1 i : (⟨1, ![n]⟩ : Shape).Idx).along (0 : Fin 1) k)) (rows ((ix1 i : (⟨1, ![n]⟩ : Shape).Idx).along (0 : Fin 1) k')) == 1#1) i)) = _
  rw [e]
  exact congrArg x (al (ix1 i) (sortedFrom R i))

/-- A compare bit is up exactly where the comparison holds. -/
theorem cmp_olt_beq (x y : EReal) : (Ideal.cmp .olt x y == 1#1) = decide (x < y) := by
  unfold Ideal.cmp
  by_cases h : x < y
  · simp [h]
  · simp [h]

/-- The printed canonical form of a float key, on extended reals: the key. -/
theorem canon (x : EReal) : Scalar.select (Ideal.cmp .une x x) (Ideal.ofBits .f32 0x7FC00000#32)
    (Scalar.select (Ideal.cmp .oeq x (Ideal.ofBits .f32 0x00000000#32)) (Ideal.ofBits .f32 0x00000000#32) x) = x := by
  have h : Ideal.cmp .une x x = 0#1 := by simp [Ideal.cmp]
  rw [h]
  show Scalar.select (Ideal.cmp .oeq x (Ideal.ofBits .f32 0x00000000#32)) (Ideal.ofBits .f32 0x00000000#32) x = x
  by_cases e : x = Ideal.ofBits .f32 0x00000000#32
  · rw [← e]
    simp [Ideal.cmp, Scalar.select]
  · have : Ideal.cmp .oeq x (Ideal.ofBits .f32 0x00000000#32) = 0#1 := by
      unfold Ideal.cmp
      rw [decide_eq_false e]
      rfl
    rw [this]
    rfl

/-- A printed maximum over every axis, from minus infinity on: bounded exactly as every entry is. -/
theorem reduce_max_le {s u : Shape} {axes : List (Fin s.rank)} (x : s.Idx → EReal) (v : u.Idx → EReal)
    (h : s.ReducesTo axes ⟨0, ![]⟩) (hu : 0 < u.numel) (hv : ∀ i, v i = ⊥) (j : (⟨0, ![]⟩ : Shape).Idx) (b : EReal) :
    Host.reduce (FloatOps.maximumf (F := Ideal) (φ := .f32)) x v h hu j ≤ b ↔ ∀ i, x i ≤ b := by
  rw [Host.reduce_eq_fold]
  have : ∀ (S : Finset s.Idx) (a : EReal), S.fold (FloatOps.maximumf (F := Ideal) (φ := .f32)) a x ≤ b ↔ a ≤ b ∧ ∀ i ∈ S, x i ≤ b :=
    fun S a => Finset.fold_max_le b
  rw [this, hv]
  constructor
  · intro h' i
    exact h'.2 i (Finset.mem_filter.mpr ⟨Finset.mem_univ i, funext fun a => a.elim0⟩)
  · intro h'
    exact ⟨bot_le, fun i _ => h' i⟩

/-- The word of minus infinity. -/
theorem ofBits_neg_inf : Ideal.ofBits .f32 0xFF800000#32 = ⊥ := by
  simp [Ideal.ofBits, Ideal.ieee]

/-- A printed select on the mask's negation. -/
theorem select_not {α : Type} (b : BitVec 1) (x y : α) (P : Prop) [Decidable P] (h : b = 1#1 ↔ ¬ P) :
    Scalar.select (~~~ b) x y = if P then x else y := by
  have hb : b = 0#1 ∨ b = 1#1 := by clear h; revert b; decide
  rcases hb with e | e
  · have hp : P := by
      by_contra hp
      rw [e] at h
      exact absurd (h.mpr hp) (by decide)
    rw [if_pos hp, e]
    rfl
  · rw [if_neg (h.mp e), e]
    rfl

end Cert.Proof.Nms

end
-- ==== Proof.Pre.lean ====
/-
  The precondition: what a box array it holds of is like. Its shape facts, and the coordinates' bounds it states.
-/
module

public import proofs.«01_k».proof.Pre_proper_boxes
public import proofs.«01_k».proof.Proof.Nms.Read
public import Idealize.ShloMosaic.Lib.Pointwise

@[expose] public section

noncomputable section

namespace Cert.Proof.Pre

open Cert.Pre_proper_boxes
open Idealize.ShloMosaic

/-- The shape facts the precondition's operations take. -/
theorem facts : Cert.Pre_proper_boxes.Facts where
  bcast_S_S20000x4 := by decide
  reducesTo_S20000x4_S_d0_1 := by decide
  h_S_ := by decide

/-- A printed conjunction over every axis that is one: every entry is one. -/
theorem reduce_and {s u : Shape} {axes : List (Fin s.rank)} (x : s.Idx → BitVec 1) (v : u.Idx → BitVec 1)
    (h : s.ReducesTo axes ⟨0, ![]⟩) (hu : 0 < u.numel) (j : (⟨0, ![]⟩ : Shape).Idx) (e : Host.reduce IntOp.andi x v h hu j = 1#1) (i : s.Idx) :
    x i = 1#1 := by
  rw [Host.reduce_eq_fold] at e
  have hr : ∀ {a b c : BitVec 1}, IntOp.andi b c = 1#1 ↔ b = 1#1 ∧ c = 1#1 := by
    intro _ b c
    revert b c
    decide
  have := (Finset.fold_op_rel_iff_and (op := IntOp.andi) (r := fun _ y : BitVec 1 => y = 1#1) (fun {a b c} => hr (a := a)) (c := 0#1)).mp e
  exact this.2 i (Finset.mem_filter.mpr ⟨Finset.mem_univ i, funext fun a => a.elim0⟩)

/-- A compare bit that is one. -/
theorem of_bool {p : Prop} [Decidable p] (h : BitVec.ofBool (decide p) = 1#1) : p := by
  by_contra hp
  rw [decide_eq_false hp] at h
  exact absurd h (by decide)

/-- The word of infinity. -/
theorem ofBits_inf : Ideal.ofBits .f32 0x7F800000#32 = ⊤ := by
  simp [Ideal.ofBits, Ideal.ieee]

/-- What the precondition says of the boxes. -/
theorem proper [Cert.Pre_proper_boxes.Facts] (x : FVec Ideal S20000x4 .f32) (y : FVec Ideal S20000 .f32) (z : IVec S20000 32)
    (h : fn x y z = fun _ => 1#1) (p : Fin 20000) (k : Fin 4) : 0 ≤ x (ix2 p k) ∧ x (ix2 p k) < ⊤ := by
  have hand : ∀ {b c : BitVec 1}, IntOp.andi b c = 1#1 → b = 1#1 ∧ c = 1#1 := by decide
  obtain ⟨a, b⟩ := hand (reduce_and _ _ _ _ _ (congrFun h (Shape.Idx.first Facts.h_S_)) (ix2 p k))
  have a' := of_bool (p := Ideal.ofBits .f32 0x00000000#32 ≤ x (ix2 p k)) a
  have b' := of_bool (p := x (ix2 p k) < Ideal.ofBits .f32 0x7F800000#32) b
  rw [Ideal.ofBits_zero_f32] at a'
  rw [ofBits_inf] at b'
  exact ⟨a', b'⟩

end Cert.Proof.Pre

end
-- ==== Proof.R.Entry.lean ====
/-
  What the reference's loop begins with, and what its results are of what the loop ends with.
-/
module

public import proofs.«01_k».proof.Proof.R.Frame
public import Idealize.ShloMosaic.Lib.StableHlo.RunRead

@[expose] public section

noncomputable section

namespace Cert.Proof.R

open Cert.ReferenceIdeal Cert.ReferenceIdeal.Gen Cert.ReferenceIdeal.Value
open Idealize.ShloMosaic Idealize.ShloMosaic.TcCoe Idealize.ShloMosaic.StableHlo Idealize.SL.Sem Idealize.ShloMosaic.Tactic

variable {F : FTy → Type} [FloatOps F]
variable (m : (ℓ : Loc nD τ sig) → Buf (Elt F) ℓ)

/-- The arguments. -/
abbrev a0 (c : Dev nD) : Vec F S20000x4 .f32 := m ((c.tc : Thread nD τ).loc main_arg0)
abbrev a1 (c : Dev nD) : Vec F S20000 .f32 := m ((c.tc : Thread nD τ).loc main_arg1)
abbrev a2 (c : Dev nD) : Vec F S20000 .i32 := m ((c.tc : Thread nD τ).loc main_arg2)

/-- The order. -/
def ord (c : Dev nD) : Vec F S20000 .i32 :=
  (Host.sort2 S20000 0 comparator_f32_i32_d0 (Host.negf (a1 m c)) (iotaInDim S20000 32 0)).2

/-- What the loop begins with: the order, no row suppressed, the counter at zero, the ranks, the sorted boxes. -/
theorem entry_v9 (c : Dev nD) : entryContents preI m c (Proc.devRef .tc main_v9) = ord m c := by
  simp only [entryContents, afterL_cons, afterL_nil]
  after_reads_simp
  rfl

theorem entry_v19_4 (c : Dev nD) : entryContents preI m c (Proc.devRef .tc main_v19_4) = fun _ => 0#1 := by
  simp only [entryContents, afterL_cons, afterL_nil]
  after_reads_simp
  rfl

theorem entry_v19_3 (c : Dev nD) : entryContents preI m c (Proc.devRef .tc main_v19_3) = fun _ => 0#32 := by
  simp only [entryContents, afterL_cons, afterL_nil]
  after_reads_simp
  rfl

theorem entry_v19_1 (c : Dev nD) : entryContents preI m c (Proc.devRef .tc main_v19_1) = iotaInDim S20000 32 0 := by
  simp only [entryContents, afterL_cons, afterL_nil]
  after_reads_simp
  rfl

/-- An index vector made non-negative (the printed wrap of negative indices), as a column. -/
def wrapCol (x : Vec F S20000 .i32) : Vec F S20000x1 .i32 :=
  broadcastInDim S20000x1 ![0] bcast_S20000_S20000x1_0
    (select (cmpi .slt x (broadcastInDim S20000 ![] bcast_S_S20000 (constantI S_ 32 0#32)))
      (addi x (broadcastInDim S20000 ![] bcast_S_S20000 (constantI S_ 32 20000#32))) x)

/-- The offset boxes. -/
def offs (c : Dev nD) : Vec F S20000x4 .f32 :=
  addf (a0 m c) (broadcastInDim S20000x4 ![0, 1] bcast_S20000x1_S20000x4_0_1 (broadcastInDim S20000x1 ![0] bcast_S20000_S20000x1_0
    (mulf (sitofp .f32 (a2 m c)) (broadcastInDim S20000 ![] bcast_S_S20000
      (addf (Host.reduce FloatOps.maximumf (a0 m c) (constant S_ .f32 0xFF800000#32) reducesTo_S20000x4_S_d0_1 h_S_)
        (constant S_ .f32 0x3F800000#32))))))

theorem entry_v19_0 (c : Dev nD) : entryContents preI m c (Proc.devRef .tc main_v19_0)
    = Host.gather gather_S20000x4_S20000x1_S20000x4_1_0_n_n_0_1_14 (offs m c) (wrapCol (ord m c)) := by
  simp only [entryContents, afterL_cons, afterL_nil]
  after_reads_simp
  rfl

/-- The stretches after the loop, read at the first result. -/
theorem post_v21 (W : Valuation τ sig (Elt F)) : afterL postI W (Proc.devRef .tc main_v21)
    = select (noti (W (Proc.devRef .tc main_v19_4))) (W (Proc.devRef .tc main_v9))
        (broadcastInDim S20000 ![] bcast_S_S20000 (constantI S_ 32 4294967295#32)) := by
  simp only [afterL_cons, afterL_nil]
  after_reads_simp
  simp only [TRef.toBuf, TRef.ofBuf, cast_eq, id]

/-- The stretches after the loop, read at the second result. -/
theorem post_v29 (W : Valuation τ sig (Elt F)) : afterL postI W (Proc.devRef .tc main_v29)
    = select (noti (W (Proc.devRef .tc main_v19_4)))
        (Host.gather gather_S20000_S20000x1_S20000_n_0_n_n_0_1_1 (W (Proc.devRef .tc main_arg1)) (wrapCol (W (Proc.devRef .tc main_v9))))
        (broadcastInDim S20000 ![] bcast_S_S20000 (constant S_ .f32 0x00000000#32)) := by
  simp only [afterL_cons, afterL_nil]
  after_reads_simp
  simp only [TRef.toBuf, TRef.ofBuf, cast_eq, id]
  rfl

end Cert.Proof.R

end
-- ==== Proof.R.Step.lean ====
/-
  One trip of the reference's loop, read at a position: the mask, where box `k` is not yet suppressed, grown by the later
  boxes that box `k` overlaps.
-/
module

public import proofs.«01_k».proof.Proof.R.Entry
public import proofs.«01_k».proof.Proof.Nms.Iou
public import Idealize.ShloMosaic.Lib.Pointwise
public import Idealize.ShloMosaic.Lib.DynamicIndex

@[expose] public section

noncomputable section

namespace Cert.Proof.R

open Cert.ReferenceIdeal Cert.ReferenceIdeal.Gen Cert.ReferenceIdeal.Value
open Idealize.ShloMosaic Idealize.ShloMosaic.TcCoe Idealize.ShloMosaic.StableHlo Idealize.SL.Sem Idealize.ShloMosaic.Tactic

/-- A row sliced at a start inside the array. -/
theorem slice_row {α : Type} (X : S20000x4.Idx → α) (st : Fin 2 → Int) (h : S20000x4.Slices (fun _ => 0) S1x4) (hc : S1x4.ShapeCasts S4)
    (k : ℕ) (hk : k < 20000) (h0 : st 0 = k) (h1 : st 1 = 0) (c : Fin 4) :
    shapeCast S4 (Host.dynamicSlice S1x4 X st h) hc (ix1 c) = X (ix2 (⟨k, hk⟩ : Fin 20000) c) := by
  rw [Host.dynamicSlice_eq_extractStridedSlice S1x4 X st ![k, 0] h ⟨rfl, fun a => by match a with
    | ⟨0, _⟩ => show k + 1 ≤ 20000; omega
    | ⟨1, _⟩ => show 0 + 4 ≤ 4; omega⟩ (fun a => by match a with
    | ⟨0, _⟩ => exact h0
    | ⟨1, _⟩ => exact h1)]
  pointwise

/-- An entry sliced at a start inside the vector, spread over all positions. -/
theorem slice_entry {α : Type} (X : S20000.Idx → α) (st : Fin 1 → Int) (h : S20000.Slices (fun _ => 0) S1) (hc : S1.ShapeCasts S_)
    (hb : S_.BroadcastsInDim S20000 ![]) (k : ℕ) (hk : k < 20000) (h0 : st 0 = k) (j : S20000.Idx) :
    broadcastInDim S20000 ![] hb (shapeCast S_ (Host.dynamicSlice S1 X st h) hc) j = X (ix1 (⟨k, hk⟩ : Fin 20000)) := by
  rw [Host.dynamicSlice_eq_extractStridedSlice S1 X st ![k] h ⟨rfl, fun a => by match a with
    | ⟨0, _⟩ => show k + 1 ≤ 20000; omega⟩ (fun a => by match a with
    | ⟨0, _⟩ => exact h0)]
  pointwise

/-- The printed index of trip `k` is `k`. -/
theorem start_k (k : ℕ) (hk : k < 20000) (a : S_.Idx → BitVec 32) :
    (select (cmpi .slt (fun _ => BitVec.ofNat 32 k) (constantI S_ 32 0#32)) a (fun _ => BitVec.ofNat 32 k) (Shape.Idx.first h_S_)).toInt = k := by
  have hi := toInt_ofNat_of_lt (k := k) (by omega)
  rw [select_slt_zero_of_nonneg (s := S_) (fun _ => BitVec.ofNat 32 k) _ (fun _ => BitVec.ofNat 32 k) _ (by rw [hi]; omega)]
  exact hi

variable (V0 : Valuation τ sig (Elt Ideal))

/-- Row `k` of the sorted boxes, as the trip slices it. -/
theorem row_v39 (k : ℕ) (hk : k < 20000) (h3 : V0 (Proc.devRef .tc main_v19_3) = fun _ => BitVec.ofNat 32 k) (c : Fin 4) :
    res_main_while0b_v39 V0 (ix1 c) = V0 (Proc.devRef .tc main_v19_0) (ix2 (⟨k, hk⟩ : Fin 20000) c) := by
  unfold res_main_while0b_v39 res_main_while0b_v31
  rw [h3]
  exact slice_row _ _ _ _ k hk (start_k k hk _) rfl c

/-- Entry `k` of the mask, as the trip slices it. -/
theorem mask_k (k : ℕ) (hk : k < 20000) (h3 : V0 (Proc.devRef .tc main_v19_3) = fun _ => BitVec.ofNat 32 k) (j : S20000.Idx) :
    broadcastInDim S20000 ![] bcast_S_S20000 (shapeCast S_ (Host.dynamicSlice S1 (V0 (Proc.devRef .tc main_v19_4)) (fun k => (((![select (cmpi .slt (V0 (Proc.devRef .tc main_v19_3)) (constantI S_ 32 0#32)) (addi (id (V0 (Proc.devRef .tc main_v19_3))) (constantI S_ 32 20000#32)) (V0 (Proc.devRef .tc main_v19_3))] : Fin 1 → (⟨S_, .i32⟩ : BufTy).Contents (Elt Ideal))) k (Shape.Idx.first h_S_)).toInt) sliceFits_S20000_S1) shapeCasts_S1_S_) j
      = V0 (Proc.devRef .tc main_v19_4) (ix1 (⟨k, hk⟩ : Fin 20000)) := by
  rw [h3]
  exact slice_entry _ _ _ _ _ k hk (start_k k hk _) j

/-- Row `p` of the sorted boxes. -/
abbrev rowAt (p : Fin 20000) : Fin 4 → EReal := fun c => V0 (Proc.devRef .tc main_v19_0) (ix2 p c)

/-- One trip's mask, read at a position. -/
theorem step_at (k : ℕ) (hk : k < 20000) (h3 : V0 (Proc.devRef .tc main_v19_3) = fun _ => BitVec.ofNat 32 k)
    (h1 : V0 (Proc.devRef .tc main_v19_1) = iotaInDim S20000 32 0) (l : Fin 20000) :
    step_main_v19_4 V0 (ix1 l) = Scalar.select (V0 (Proc.devRef .tc main_v19_4) (ix1 (⟨k, hk⟩ : Fin 20000)))
      (V0 (Proc.devRef .tc main_v19_4) (ix1 l))
      (IntOp.ori (V0 (Proc.devRef .tc main_v19_4) (ix1 l))
        (IntOp.andi (Ideal.cmp .ogt (Nms.iou (rowAt V0 ⟨k, hk⟩) (rowAt V0 l)) Nms.half)
          (Scalar.cmpi .sgt (BitVec.ofNat 32 l.val) (BitVec.ofNat 32 k)))) := by
  unfold step_main_v19_4
  rw [id_eq, funext (mask_k V0 k hk h3)]
  unfold Nms.iou Nms.inter Nms.area Nms.half rowAt
  simp only [← row_v39 V0 k hk h3]
  unfold res_main_while0b_v70
  generalize res_main_while0b_v39 V0 = W
  rw [h1, h3, id_eq]
  pointwise
  rfl

end Cert.Proof.R

end
-- ==== Proof.R.Loop.lean ====
/-
  The reference's whole loop: the mask it ends with marks the positions that are not kept.
-/
module

public import proofs.«01_k».proof.Proof.R.Step
public import proofs.«01_k».proof.Proof.Nms.Order

@[expose] public section

noncomputable section

namespace Cert.Proof.R

open Cert.ReferenceIdeal Cert.ReferenceIdeal.Gen Cert.ReferenceIdeal.Value
open Idealize.ShloMosaic Idealize.ShloMosaic.TcCoe Idealize.ShloMosaic.StableHlo Idealize.SL.Sem Idealize.ShloMosaic.Tactic

/-- A bit selected or grown: the printed mask update as propositions. -/
theorem bit_step (s t a b : BitVec 1) :
    Scalar.select s t (IntOp.ori t (IntOp.andi a b)) = 1#1 ↔ t = 1#1 ∨ (s ≠ 1#1 ∧ a = 1#1 ∧ b = 1#1) := by
  revert s t a b
  decide

/-- A signed compare of two positions. -/
theorem sgt_word (l k : ℕ) (hl : l < 20000) (hk : k < 20000) :
    Scalar.cmpi .sgt (BitVec.ofNat 32 l) (BitVec.ofNat 32 k) = 1#1 ↔ k < l := by
  have : Scalar.cmpi .sgt (BitVec.ofNat 32 l) (BitVec.ofNat 32 k)
      = BitVec.ofBool (decide ((BitVec.ofNat 32 k).toInt < (BitVec.ofNat 32 l).toInt)) := rfl
  rw [this, toInt_ofNat_of_lt (by omega), toInt_ofNat_of_lt (by omega)]
  by_cases h : k < l
  · simp [h]
  · simp [h]

/-- A printed greater-than. -/
theorem cmp_ogt (x y : EReal) : Ideal.cmp .ogt x y = 1#1 ↔ y < x := by
  unfold Ideal.cmp
  by_cases h : y < x
  · simp [h]
  · simp [h]

variable (V0 : Valuation τ sig (Elt Ideal))

/-- Which positions' boxes overlap. -/
def rowOv : ℕ → ℕ → Prop := Nms.onPos id fun p q => Nms.over (rowAt V0 p) (rowAt V0 q)

theorem iter_carried (h3 : V0 (Proc.devRef .tc main_v19_3) = fun _ => 0#32) : ∀ k : ℕ,
    STEP^[k] V0 (Proc.devRef .tc main_v19_0) = V0 (Proc.devRef .tc main_v19_0)
    ∧ STEP^[k] V0 (Proc.devRef .tc main_v19_1) = V0 (Proc.devRef .tc main_v19_1)
    ∧ STEP^[k] V0 (Proc.devRef .tc main_v19_3) = fun _ => BitVec.ofNat 32 k
  | 0 => ⟨rfl, rfl, h3⟩
  | k + 1 => by
    obtain ⟨e0, e1, e3⟩ := iter_carried h3 k
    rw [Function.iterate_succ_apply', STEP_main_v19_0, STEP_main_v19_1, STEP_main_v19_3]
    refine ⟨e0, e1, ?_⟩
    unfold step_main_v19_3
    rw [e3]
    funext _
    exact (BitVec.ofNat_add k 1).symm

/-- The mask before trip `k`: the positions suppressed by a kept position before `k`. -/
theorem iter_mask (h3 : V0 (Proc.devRef .tc main_v19_3) = fun _ => 0#32)
    (h1 : V0 (Proc.devRef .tc main_v19_1) = iotaInDim S20000 32 0) (h4 : V0 (Proc.devRef .tc main_v19_4) = fun _ => 0#1) :
    ∀ k : ℕ, k ≤ 20000 → ∀ l : Fin 20000, STEP^[k] V0 (Proc.devRef .tc main_v19_4) (ix1 l) = 1#1
      ↔ ∃ q, q < k ∧ q < l.val ∧ Nms.keepAt (rowOv V0) q ∧ rowOv V0 q l.val
  | 0, _, l => by
    rw [Function.iterate_zero_apply, h4]
    refine iff_of_false (by show ¬ (0#1 : BitVec 1) = 1#1; decide) ?_
    rintro ⟨q, hq, _⟩
    exact absurd hq (Nat.not_lt_zero q)
  | k + 1, hk, l => by
    have ih := iter_mask h3 h1 h4 k (by omega)
    obtain ⟨e0, e1, e3⟩ := iter_carried V0 h3 k
    rw [Function.iterate_succ_apply', STEP_main_v19_4, step_at _ k (by omega) e3 (e1.trans h1) l, bit_step, ih l, cmp_ogt,
      sgt_word l.val k l.2 (by omega)]
    have hs : STEP^[k] V0 (Proc.devRef .tc main_v19_4) (ix1 (⟨k, by omega⟩ : Fin 20000)) ≠ 1#1 ↔ Nms.keepAt (rowOv V0) k := by
      rw [Ne, ih ⟨k, by omega⟩, Nms.keepAt_iff]
      constructor
      · intro h q hq kq o
        exact h ⟨q, hq, hq, kq, o⟩
      · rintro h ⟨q, hq, _, kq, o⟩
        exact h q hq kq o
    have ho : Nms.half < Nms.iou (rowAt (STEP^[k] V0) ⟨k, by omega⟩) (rowAt (STEP^[k] V0) l) ↔ rowOv V0 k l.val := by
      unfold rowAt
      rw [e0]
      exact ⟨fun h => ⟨by omega, l.2, h⟩, fun ⟨_, _, h⟩ => h⟩
    rw [hs, ho]
    constructor
    · rintro (⟨q, hq, hql, kq, o⟩ | ⟨kk, o, hkl⟩)
      · exact ⟨q, by omega, hql, kq, o⟩
      · exact ⟨k, by omega, hkl, kk, o⟩
    · rintro ⟨q, hq, hql, kq, o⟩
      rcases Nat.lt_succ_iff_lt_or_eq.mp hq with h | rfl
      · exact .inl ⟨q, h, hql, kq, o⟩
      · exact .inr ⟨kq, o, hql⟩

/-- After the loop the mask is up exactly where a position is not kept. -/
theorem iter_mask_end (h3 : V0 (Proc.devRef .tc main_v19_3) = fun _ => 0#32)
    (h1 : V0 (Proc.devRef .tc main_v19_1) = iotaInDim S20000 32 0) (h4 : V0 (Proc.devRef .tc main_v19_4) = fun _ => 0#1) (l : Fin 20000) :
    STEP^[20000] V0 (Proc.devRef .tc main_v19_4) (ix1 l) = 1#1 ↔ ¬ Nms.keepAt (rowOv V0) l.val := by
  rw [iter_mask V0 h3 h1 h4 20000 le_rfl l, Nms.keepAt_iff]
  push Not
  constructor
  · rintro ⟨q, _, hql, kq, o⟩
    exact ⟨q, hql, kq, o⟩
  · rintro ⟨q, hql, kq, o⟩
    exact ⟨q, by omega, hql, kq, o⟩

end Cert.Proof.R

end
-- ==== Proof.R.Value.lean ====
/-
  The reference's two results on extended reals.
-/
module

public import proofs.«01_k».proof.Proof.R.Loop
public import proofs.«01_k».proof.Proof.Nms.Read
public import Idealize.ShloMosaic.Lib.Routing.OpsSet

@[expose] public section

noncomputable section

namespace Cert.Proof.R

open Cert.ReferenceIdeal Cert.ReferenceIdeal.Gen Cert.ReferenceIdeal.Value
open Idealize.ShloMosaic Idealize.ShloMosaic.TcCoe Idealize.ShloMosaic.StableHlo Idealize.SL.Sem Idealize.ShloMosaic.Tactic

/-- The scores at the loop's start. -/
theorem entry_arg1 {F : FTy → Type} [FloatOps F] (m : (ℓ : Loc nD τ sig) → Buf (Elt F) ℓ) (c : Dev nD) :
    entryContents preI m c (Proc.devRef .tc main_arg1) = a1 m c := by
  simp only [entryContents, afterL_cons, afterL_nil]
  after_reads_simp

/-- The printed order of two scores. -/
theorem cmp_score (l r : EReal × BitVec 32) : (comparator_f32_i32_d0 (F := Ideal) l r == 1#1) = decide (l.1 < r.1) := by
  rw [← Nms.cmp_olt_beq]
  have : comparator_f32_i32_d0 (F := Ideal) l r = Ideal.cmp .olt
    (Scalar.select (Ideal.cmp .une l.1 l.1) (Ideal.ofBits .f32 0x7FC00000#32) (Scalar.select (Ideal.cmp .oeq l.1 (Ideal.ofBits .f32 0x00000000#32)) (Ideal.ofBits .f32 0x00000000#32) l.1))
    (Scalar.select (Ideal.cmp .une r.1 r.1) (Ideal.ofBits .f32 0x7FC00000#32) (Scalar.select (Ideal.cmp .oeq r.1 (Ideal.ofBits .f32 0x00000000#32)) (Ideal.ofBits .f32 0x00000000#32) r.1)) := rfl
  rw [this, Nms.canon, Nms.canon]

variable (m : (ℓ : Loc nD τ sig) → Buf (Elt Ideal) ℓ) (c : Dev nD)

/-- The boxes, scores and classes. -/
abbrev bx (p : Fin 20000) (k : Fin 4) : EReal := a0 m c (ix2 p k)
abbrev sc (p : Fin 20000) : EReal := a1 m c (ix1 p)
abbrev cl (p : Fin 20000) : BitVec 32 := a2 m c (ix1 p)

/-- The order, at a position. -/
theorem ord_at (i : Fin 20000) : ord m c (ix1 i) = BitVec.ofNat 32 (Nms.scoreSort (sc m c) i).val := by
  unfold ord
  rw [Host.sort2_eq_sortBy]
  exact Nms.sortBy_at (comparator_f32_i32_d0 (F := Ideal)) (fun j => (Host.negf (a1 m c) j, iotaInDim S20000 32 0 j)) (iotaInDim S20000 32 0)
    (fun p q => decide (-sc m c p < -sc m c q)) (fun p q => cmp_score _ _) i

/-- A position's word, wrapped: itself. -/
theorem wrap_word (k : ℕ) (hk : k < 20000) (w : BitVec 32) :
    Scalar.select (IntOp.cmpi .slt (BitVec.ofNat 32 k) 0#32) w (BitVec.ofNat 32 k) = BitVec.ofNat 32 k :=
  select_slt_zero_of_nonneg (s := S_) (fun _ => BitVec.ofNat 32 k) (fun _ => w) (fun _ => BitVec.ofNat 32 k) (Shape.Idx.first h_S_)
    (by rw [toInt_ofNat_of_lt (by omega)]; omega)

/-- A wrapped index, at a position. -/
theorem wrap_at (i : Fin 20000) : wrapCol (F := Ideal) (ord m c) (ix2 i (0 : Fin 1)) = BitVec.ofNat 32 (Nms.scoreSort (sc m c) i).val := by
  unfold wrapCol
  pointwise
  rw [ord_at]
  exact wrap_word _ (Fin.isLt _) _

/-- The printed greatest coordinate. -/
theorem max_at : Host.reduce FloatOps.maximumf (a0 m c) (constant S_ .f32 0xFF800000#32) reducesTo_S20000x4_S_d0_1 h_S_
    = fun _ => Nms.mx (bx m c) := by
  funext j
  refine eq_of_forall_ge_iff fun b => ?_
  rw [Nms.mx_le_iff]
  refine (Nms.reduce_max_le _ _ _ _ (fun _ => Nms.ofBits_neg_inf) j b).trans ?_
  constructor
  · exact fun h p k => h (ix2 p k)
  · intro h i
    have e : i = ix2 (i 0) (i 1) := by
      funext a; match a with | ⟨0, _⟩ => rfl | ⟨1, _⟩ => rfl
    rw [e]
    exact h (i 0) (i 1)

/-- The offset boxes, at a row and a coordinate. -/
theorem offs_at (p : Fin 20000) (k : Fin 4) : offs m c (ix2 p k) = Nms.offBox (bx m c) (cl m c) p k := by
  unfold offs Nms.offBox
  rw [max_at]
  generalize Nms.mx (bx m c) = M
  pointwise
  rfl

/-- The sorted offset boxes the loop carries. -/
theorem entry_row (p : Fin 20000) : rowAt (entryContents preI m c) p = Nms.offBox (bx m c) (cl m c) (Nms.scoreSort (sc m c) p) := by
  funext k
  unfold rowAt
  rw [entry_v19_0, ← offs_at]
  exact Routing.gather_row gather_S20000x4_S20000x1_S20000x4_1_0_n_n_0_1_14 rfl rfl rfl rfl rfl _ _ p k _ (wrap_at m c p) (by norm_num)

/-- The loop's overlap relation. -/
theorem entry_ov : rowOv (entryContents preI m c) = Nms.onPos (Nms.scoreSort (sc m c)) (Nms.overlaps (bx m c) (cl m c)) := by
  funext a b
  unfold rowOv Nms.onPos Nms.overlaps
  simp only [entry_row, id]

/-- The mask after the loop. -/
theorem mask_end (i : Fin 20000) : atK m 20000 c (Proc.devRef .tc main_v19_4) (ix1 i) = 1#1 ↔ ¬ Nms.kept (bx m c) (sc m c) (cl m c) i := by
  rw [atK_agree m c 20000 main_v19_4 (by decide), iter_mask_end _ (entry_v19_3 m c) (entry_v19_1 m c) (entry_v19_4 m c), entry_ov]
  rfl

/-- The first result. -/
theorem final_idx (i : Fin 20000) : finalContents condOps preI bodyI postI 20000 m c (Proc.devRef .tc main_v21) (ix1 i)
    = Nms.resIdx (bx m c) (sc m c) (cl m c) i := by
  rw [final_eq, post_v21, exitV_keep m c main_v19_4 (by decide +kernel), exitV_keep m c main_v9 (by decide +kernel),
    atK_keep m c main_v9 (by decide +kernel), entry_v9]
  have hm := mask_end m c i
  generalize atK m 20000 c (Proc.devRef .tc main_v19_4) = A at hm ⊢
  have e := ord_at m c i
  generalize ord m c = O at e ⊢
  classical
  refine (Nms.select_not (A (ix1 i)) (O (ix1 i)) 4294967295#32 _ hm).trans ?_
  rw [e]
  unfold Nms.resIdx
  split <;> rfl

/-- The second result. -/
theorem final_score (i : Fin 20000) : finalContents condOps preI bodyI postI 20000 m c (Proc.devRef .tc main_v29) (ix1 i)
    = Nms.resScore (bx m c) (sc m c) (cl m c) i := by
  rw [final_eq, post_v29, exitV_keep m c main_v19_4 (by decide +kernel), exitV_keep m c main_v9 (by decide +kernel),
    exitV_keep m c main_arg1 (by decide +kernel),
    atK_keep m c main_v9 (by decide +kernel), atK_keep m c main_arg1 (by decide +kernel), entry_v9, entry_arg1]
  have hm := mask_end m c i
  generalize atK m 20000 c (Proc.devRef .tc main_v19_4) = A at hm ⊢
  have e : Host.gather gather_S20000_S20000x1_S20000_n_0_n_n_0_1_1 (a1 m c) (wrapCol (F := Ideal) (ord m c)) (ix1 i) = sc m c (Nms.scoreSort (sc m c) i) :=
    Routing.gather_take1 gather_S20000_S20000x1_S20000_n_0_n_n_0_1_1 rfl rfl rfl rfl _ _ i _ (wrap_at m c i) (by norm_num)
  generalize Host.gather gather_S20000_S20000x1_S20000_n_0_n_n_0_1_1 (a1 m c) (wrapCol (F := Ideal) (ord m c)) = O at e ⊢
  classical
  refine (Nms.select_not (A (ix1 i)) (O (ix1 i)) (Ideal.ofBits .f32 0x00000000#32) _ hm).trans ?_
  rw [e]
  unfold Nms.resScore
  split
  · rfl
  · exact Ideal.ofBits_zero_f32

end Cert.Proof.R

end
-- ==== Proof.KI.Prefix.lean ====
/-
  What the host lines before the kernel leave in the kernel's six inputs and in the arrays read after it.
-/
module

public import proofs.«01_k».proof.Proof.KI.Host
public import Idealize.ShloMosaic.Lib.StableHlo.RunRead

@[expose] public section

noncomputable section

namespace Cert.Proof.KI

open Cert.KernelIdeal Cert.KernelIdeal.Gen
open Idealize.ShloMosaic Idealize.ShloMosaic.TcCoe Idealize.ShloMosaic.StableHlo Idealize.SL.Sem Idealize.ShloMosaic.Tactic

variable {F : FTy → Type} [FloatOps F]

section Arrays

variable (b0 : Vec F S20000x4 .f32) (b1 : Vec F S20000 .f32) (b2 : Vec F S20000 .i32)

/-- The four columns of the boxes. -/
def col0 : Vec F S20000 .f32 := shapeCast S20000 (extractStridedSlice S20000x1 ![0, 0] b0 slices_S20000x4_S20000x1_0_0) shapeCasts_S20000x1_S20000
/-- The other three columns. -/
def col1 : Vec F S20000 .f32 := shapeCast S20000 (extractStridedSlice S20000x1 ![0, 1] b0 slices_S20000x4_S20000x1_0_1) shapeCasts_S20000x1_S20000
def col2 : Vec F S20000 .f32 := shapeCast S20000 (extractStridedSlice S20000x1 ![0, 2] b0 slices_S20000x4_S20000x1_0_2) shapeCasts_S20000x1_S20000
def col3 : Vec F S20000 .f32 := shapeCast S20000 (extractStridedSlice S20000x1 ![0, 3] b0 slices_S20000x4_S20000x1_0_3) shapeCasts_S20000x1_S20000

/-- The rows the class-major sort compares. -/
def keys (j : S20000.Idx) : BitVec 32 × F .f32 × F .f32 × F .f32 × F .f32 × F .f32 × BitVec 32 :=
  (b2 j, Host.negf b1 j, col0 b0 j, col1 b0 j, col2 b0 j, col3 b0 j, iotaInDim S20000 32 0 j)

/-- An array in the class-major order. -/
def byClass {α : Type} (x : S20000.Idx → α) : S20000.Idx → α :=
  Host.sortBy S20000 0 comparator_i32_f32_f32_f32_f32_f32_i32_d0 (keys b0 b1 b2) x

/-- An array filled up to 40 blocks of 512. -/
def blocks {α : Type} (x : S20000.Idx → α) (p : S480.Idx → α) : S40x512.Idx → α :=
  shapeCast S40x512 (concatenate S20480 0 [⟨S20000, x⟩, ⟨S480, p⟩] concatenates_S20000_S480_S20480_d0) shapeCasts_S20480_S40x512

/-- The fill of the low corners, of the high corners, and of the classes. -/
def fillLo : Vec F S480 .f32 := broadcastInDim S480 ![] bcast_S_S480 (constant S_ .f32 0xCA742400#32)
/-- The far corners' and the classes' fill. -/
def fillHi : Vec F S480 .f32 := addf fillLo (broadcastInDim S480 ![] bcast_S_S480 (constant S_ .f32 0x3F800000#32))
def fillCls : IVec S480 32 := broadcastInDim S480 ![] bcast_S_S480 (constantI S_ 32 21#32)

/-- The table of range ends, from the blocked classes. -/
def endsTable (x : IVec S40x512 32) : IVec S40 32 :=
  Host.reduce IntOp.addi (extui 32 (cmpi .sle
      (broadcastInDim S40x40 ![0, 1] bcast_S1x40_S40x40_0_1 (broadcastInDim S1x40 ![1] bcast_S40_S1x40_1
        (shapeCast S40 (extractStridedSlice S40x1 ![0, 0] x slices_S40x512_S40x1_0_0) shapeCasts_S40x1_S40)))
      (broadcastInDim S40x40 ![0, 1] bcast_S40x1_S40x40_0_1 (broadcastInDim S40x1 ![0] bcast_S40_S40x1_0
        (shapeCast S40 (extractStridedSlice S40x1 ![0, 511] x slices_S40x512_S40x1_0_511) shapeCasts_S40x1_S40))))
      natLt_1_32) (constantI S_ 32 0#32) reducesTo_S40x40_S40_d1 h_S_

/-- The classes as floats, blocked. -/
def clsF (x : S20000.Idx → BitVec 32) (p : S480.Idx → BitVec 32) : Vec F S40x512 .f32 :=
  shapeCast S40x512 (sitofp (F := F) .f32 (concatenate S20480 0 [⟨S20000, x⟩, ⟨S480, p⟩] concatenates_S20000_S480_S20480_d0)) shapeCasts_S20480_S40x512

end Arrays

variable (m : (ℓ : Loc nD τ sig) → Buf (Elt F) ℓ)

/-- The three arguments. -/
abbrev b0 (c : Dev nD) : Vec F S20000x4 .f32 := m ((c.tc : Thread nD τ).loc main_arg0)
abbrev b1 (c : Dev nD) : Vec F S20000 .f32 := m ((c.tc : Thread nD τ).loc main_arg1)
abbrev b2 (c : Dev nD) : Vec F S20000 .i32 := m ((c.tc : Thread nD τ).loc main_arg2)

/-- The buffers the kernel begins with: each sorted, filled and blocked; the range ends; the score order. -/
theorem V_v29 (c : Dev nD) : V m c main_v29 = blocks (byClass (b0 m c) (b1 m c) (b2 m c) (col0 (b0 m c))) fillLo := by
  unfold V V0
  simp only [List.flatten_cons, List.flatten_nil, List.append_nil]
  after_reads_simp
  rfl

theorem V_v2 (c : Dev nD) : V m c main_v2_1 = (Host.sort2 S20000 0 comparator_f32_i32_d0 (Host.negf (b1 m c)) (iotaInDim S20000 32 0)).2 := by
  unfold V V0
  simp only [List.flatten_cons, List.flatten_nil, List.append_nil]
  after_reads_simp

theorem V_v26 (c : Dev nD) : V m c main_v26 = endsTable (blocks (byClass (b0 m c) (b1 m c) (b2 m c) (b2 m c)) fillCls) := by
  unfold V V0
  simp only [List.flatten_cons, List.flatten_nil, List.append_nil]
  after_reads_simp
  rfl

theorem V_v31 (c : Dev nD) : V m c main_v31 = blocks (byClass (b0 m c) (b1 m c) (b2 m c) (col1 (b0 m c))) fillLo := by
  unfold V V0
  simp only [List.flatten_cons, List.flatten_nil, List.append_nil]
  after_reads_simp
  rfl

theorem V_v35 (c : Dev nD) : V m c main_v35 = blocks (byClass (b0 m c) (b1 m c) (b2 m c) (col2 (b0 m c))) fillHi := by
  unfold V V0
  simp only [List.flatten_cons, List.flatten_nil, List.append_nil]
  after_reads_simp
  rfl

theorem V_v39 (c : Dev nD) : V m c main_v39 = blocks (byClass (b0 m c) (b1 m c) (b2 m c) (col3 (b0 m c))) fillHi := by
  unfold V V0
  simp only [List.flatten_cons, List.flatten_nil, List.append_nil]
  after_reads_simp
  rfl

theorem V_v41 (c : Dev nD) : V m c main_v41 = clsF (byClass (b0 m c) (b1 m c) (b2 m c) (b2 m c)) fillCls := by
  unfold V V0
  simp only [List.flatten_cons, List.flatten_nil, List.append_nil]
  after_reads_simp
  rfl

theorem V_v12_6 (c : Dev nD) : V m c main_v12_6 = byClass (b0 m c) (b1 m c) (b2 m c) (iotaInDim S20000 32 0) := by
  unfold V V0
  simp only [List.flatten_cons, List.flatten_nil, List.append_nil]
  after_reads_simp
  rfl

theorem V_v3 (c : Dev nD) : V m c main_v3 = Host.negf (Host.sort2 S20000 0 comparator_f32_i32_d0 (Host.negf (b1 m c)) (iotaInDim S20000 32 0)).1 := by
  unfold V V0
  simp only [List.flatten_cons, List.flatten_nil, List.append_nil]
  after_reads_simp

/-- A vector of positions, the negative ones wrapped, as a column. -/
def wrapPos (x : IVec S20000 32) : IVec S20000x1 32 :=
  broadcastInDim S20000x1 ![0] bcast_S20000_S20000x1_0
    (select (cmpi .slt x (broadcastInDim S20000 ![] bcast_S_S20000 (constantI S_ 32 0#32)))
      (addi x (broadcastInDim S20000 ![] bcast_S_S20000 (constantI S_ 32 20000#32))) x)

/-- The keep mask in the scores' order: the kernel's result scattered to the boxes' own order, gathered by score. -/
def maskOf (k : Vec F S40x512 .f32) (q p : IVec S20000 32) : IVec S20000 1 :=
  cmpf .ogt (Host.gather gather_S20000_S20000x1_S20000_n_0_n_n_0_1_1
      (Host.scatter scatter_S20000_S20000x1_S20000_n_0_0_1 (fun _ b => b)
        (broadcastInDim S20000 ![] bcast_S_S20000 (constant (F := F) S_ .f32 0x00000000#32)) (wrapPos q)
        (extractStridedSlice S20000 ![0] (shapeCast S20480 k shapeCasts_S40x512_S20480) slices_S20480_S20000_0)) (wrapPos p))
    (broadcastInDim S20000 ![] bcast_S_S20000 (constant S_ .f32 0x3F000000#32))

/-- The first result, from the kernel's array and the two orders. -/
theorem post_v62 (W : Valuation τ sig (Elt F)) :
    StableHlo.after (List.flatten [hostOps1, hostOps1_1, hostOps1_2, hostOps1_3]) W (Proc.devRef .tc main_v62)
      = select (maskOf (W (Proc.devRef .tc main_v42)) (W (Proc.devRef .tc main_v12_6)) (W (Proc.devRef .tc main_v2_1)))
          (W (Proc.devRef .tc main_v2_1)) (broadcastInDim S20000 ![] bcast_S_S20000 (constantI S_ 32 4294967295#32)) := by
  simp only [List.flatten_cons, List.flatten_nil, List.append_nil, List.cons_append, List.nil_append]
  after_reads_simp
  simp only [TRef.toBuf, TRef.ofBuf, cast_eq, id]
  rfl

/-- The second result, from the same and the sorted scores. -/
theorem post_v63 (W : Valuation τ sig (Elt F)) :
    StableHlo.after (List.flatten [hostOps1, hostOps1_1, hostOps1_2, hostOps1_3]) W (Proc.devRef .tc main_v63)
      = select (maskOf (W (Proc.devRef .tc main_v42)) (W (Proc.devRef .tc main_v12_6)) (W (Proc.devRef .tc main_v2_1)))
          (W (Proc.devRef .tc main_v3)) (broadcastInDim S20000 ![] bcast_S_S20000 (constant S_ .f32 0x00000000#32)) := by
  simp only [List.flatten_cons, List.flatten_nil, List.append_nil, List.cons_append, List.nil_append]
  after_reads_simp
  simp only [TRef.toBuf, TRef.ofBuf, cast_eq, id]
  rfl

end Cert.Proof.KI

end
-- ==== Proof.Nms.Ind.lean ====
/-
  Zero-one values of the extended reals: their products, complements and sums, and the greedy rounds they compute.
-/
module

public import Idealize.ShloMosaic.PureOps.Ideal.Laws
public import Mathlib.Algebra.Order.BigOperators.Group.Finset

@[expose] public section

noncomputable section

namespace Cert.Proof.Nms

open Classical in
/-- One where `P` holds, zero elsewhere. -/
def ind (P : Prop) : EReal := if P then 1 else 0

/-- A choice of one and zero is an indicator. -/
theorem ite_ind (P : Prop) [Decidable P] : (if P then (1 : EReal) else 0) = ind P := by
  unfold ind; congr

/-- The indicator of what holds. -/
theorem ind_pos {P : Prop} (h : P) : ind P = 1 := by unfold ind; rw [if_pos h]

/-- The indicator of what does not. -/
theorem ind_neg {P : Prop} (h : ¬ P) : ind P = 0 := by unfold ind; rw [if_neg h]

/-- Products of indicators. -/
theorem ind_mul (P Q : Prop) : ind P * ind Q = ind (P ∧ Q) := by
  by_cases hP : P <;> by_cases hQ : Q <;> simp [ind, hP, hQ]

/-- One less an indicator. -/
theorem one_sub_ind (P : Prop) : 1 - ind P = ind (¬ P) := by
  by_cases hP : P
  · rw [ind_pos hP, ind_neg (not_not.mpr hP)]
    exact EReal.sub_self (by decide) (by decide)
  · rw [ind_neg hP, ind_pos hP, sub_zero]

/-- Sums of exclusive indicators. -/
theorem ind_add (P Q : Prop) (h : P → ¬ Q) : ind P + ind Q = ind (P ∨ Q) := by
  by_cases hP : P
  · rw [ind_pos hP, ind_neg (h hP), ind_pos (.inl hP), add_zero]
  · by_cases hQ : Q <;> simp [ind, hP, hQ]

/-- Indicators of equivalent statements. -/
theorem ind_congr {P Q : Prop} (h : P ↔ Q) : ind P = ind Q := by rw [propext h]

/-- An indicator that is one. -/
theorem ind_eq_one {P : Prop} : ind P = 1 ↔ P := by
  by_cases hP : P <;> simp [ind, hP]

/-- Indicators are not negative. -/
theorem ind_nonneg (P : Prop) : 0 ≤ ind P := by
  by_cases hP : P <;> simp [ind, hP]

/-- A sum of indicators is zero when none holds. -/
theorem sum_ind_zero {n : ℕ} (P : Fin n → Prop) : ∑ x, ind (P x) = 0 ↔ ∀ x, ¬ P x := by
  rw [Finset.sum_eq_zero_iff_of_nonneg fun x _ => ind_nonneg (P x)]
  refine forall_congr' fun x => ?_
  by_cases h : P x <;> simp [ind, h]

/-- It is positive when one holds. -/
theorem sum_ind_pos {n : ℕ} (P : Fin n → Prop) : 0 < ∑ x, ind (P x) ↔ ∃ x, P x := by
  rw [lt_iff_le_and_ne, and_iff_right (Finset.sum_nonneg fun x _ => ind_nonneg (P x)), ne_comm, Ne, sum_ind_zero]
  push Not
  rfl

section Greedy

variable {n : ℕ} (A : Fin n → Prop) (O : Fin n → Fin n → Prop)

/-- The lanes a round finds sure to be kept: active, not retired, and overlapped by no lane still in play. -/
def sure (R : Fin n → Prop) (x : Fin n) : Prop := (A x ∧ ¬ R x) ∧ ∀ y, ¬ ((A y ∧ ¬ R y) ∧ O y x)

/-- The lanes a round newly retires. -/
def fresh (R : Fin n → Prop) (l : Fin n) : Prop := (∃ x, sure A O R x ∧ O x l) ∧ ¬ R l

variable (G : Fin n → Prop) (hG : ∀ l, G l ↔ A l ∧ ∀ s, O s l → ¬ G s)

include hG

/-- With only suppressed lanes retired, an active lane that no lane in play overlaps is kept. -/
theorem kept_of_sure (R : Fin n → Prop) (hR : ∀ l, R l → ∃ s, G s ∧ O s l) (x : Fin n)
    (h : A x ∧ ∀ y, ¬ ((A y ∧ ¬ R y) ∧ O y x)) : G x := by
  rw [hG]
  refine ⟨h.1, fun s hs g => h.2 s ⟨⟨((hG s).mp g).1, fun r => ?_⟩, hs⟩⟩
  obtain ⟨z, gz, oz⟩ := hR s r
  exact ((hG s).mp g).2 z oz gz

/-- A round keeps it so that only suppressed lanes are retired. -/
theorem fresh_sound (R : Fin n → Prop) (hR : ∀ l, R l → ∃ s, G s ∧ O s l) (l : Fin n) (h : R l ∨ fresh A O R l) : ∃ s, G s ∧ O s l := by
  rcases h with h | ⟨⟨x, hx, o⟩, _⟩
  · exact hR l h
  · exact ⟨x, kept_of_sure A O G hG R hR x ⟨hx.1.1, hx.2⟩, o⟩

/-- Once a round retires nothing, the active lanes that no lane in play overlaps are the kept ones. -/
theorem kept_iff_sure (hO : ∀ s l, O s l → s < l) (R : Fin n → Prop) (hR : ∀ l, R l → ∃ s, G s ∧ O s l) (hend : ∀ l, ¬ fresh A O R l) :
    ∀ l, G l ↔ A l ∧ ∀ y, ¬ ((A y ∧ ¬ R y) ∧ O y l) := by
  intro l
  induction l using WellFoundedLT.induction with
  | _ l ih =>
    refine ⟨fun g => ⟨((hG l).mp g).1, fun y ⟨⟨ay, ry⟩, o⟩ => ?_⟩, kept_of_sure A O G hG R hR l⟩
    have ng : ¬ G y := ((hG l).mp g).2 y o
    rw [hG y] at ng
    push Not at ng
    obtain ⟨z, oz, gz⟩ := ng ay
    have hz := (ih z ((hO z y oz).trans (hO y l o))).mp gz
    have rz : ¬ R z := fun r => by
      obtain ⟨w, gw, ow⟩ := hR z r
      exact ((hG z).mp gz).2 w ow gw
    exact hend y ⟨⟨z, ⟨⟨hz.1, rz⟩, hz.2⟩, oz⟩, ry⟩

end Greedy

end Cert.Proof.Nms

end
-- ==== Proof.KI.Lane.lean ====
/-
  The kernel's values read at a lane, over the extended reals: the overlap of two lanes, one round of the while, the keep
  row, and a push into a later row.
-/
module

public import proofs.«01_k».proof.Proof.KI.StopsIdeal
public import proofs.«01_k».proof.Proof.Nms.Iou
public import proofs.«01_k».proof.Proof.Nms.Ind
public import Idealize.ShloMosaic.Lib.Pointwise
public import Idealize.ShloMosaic.Lib.DynamicIndex

@[expose] public section

noncomputable section

namespace Cert.Proof.KI

open Cert.KernelIdeal Cert.KernelIdeal.Gen

open Idealize.ShloMosaic

open Nms (ind sure fresh over half)

section Rows

variable (u : Ideal .f32) (r1 r2 r3 r4 r5 q1 q2 q3 q4 q5 : Vec Ideal S1x512 .f32)

/-- The box of lane `l`, moved by its class: the rows hold the two corners and the class. -/
def laneBox (l : Fin 512) : Fin 4 → EReal :=
  ![r1 (ix2 0 l) + r5 (ix2 0 l) * u, r2 (ix2 0 l) + r5 (ix2 0 l) * u, r3 (ix2 0 l) + r5 (ix2 0 l) * u, r4 (ix2 0 l) + r5 (ix2 0 l) * u]

/-- The strict upper triangle. -/
theorem upper_at (s l : Fin 512) : k0_pay1 (ix2 s l) = BitVec.ofBool (decide (s < l)) := by
  unfold k0_pay1
  pointwise
  show BitVec.ofBool (decide ((BitVec.ofNat 32 s.val).toInt < (BitVec.ofNat 32 l.val).toInt)) = _
  rw [toInt_ofNat_of_lt (k := s.val) (by omega), toInt_ofNat_of_lt (k := l.val) (by omega)]
  simp

/-- A select on two bits at once. -/
theorem select_and (P Q : Prop) [Decidable P] [Decidable Q] :
    Scalar.select (IntOp.andi (BitVec.ofBool (decide P)) (BitVec.ofBool (decide Q))) (1 : EReal) 0 = ind (Q ∧ P) := by
  by_cases hP : P <;> by_cases hQ : Q <;> simp [ind, hP, hQ, Scalar.select, IntOp.andi]

/-- A block's own overlap matrix. -/
theorem own_at (s l : Fin 512) :
    k0_pay36 k0_pay1 (k0_pay27 u r5 r1 r2 r3 r4) (k0_pay32 u r5 r1 r2 r3 r4) (k0_pay34 u r5 r1 r3) (k0_pay35 u r5 r2 r4) (ix2 s l)
      = ind (s < l ∧ over (laneBox u r1 r2 r3 r4 r5 s) (laneBox u r1 r2 r3 r4 r5 l)) := by
  have hw : k0_pay34 u r5 r1 r3 (ix2 s l) = max 0 (min (laneBox u r1 r2 r3 r4 r5 s 2) (laneBox u r1 r2 r3 r4 r5 l 2)
      - max (laneBox u r1 r2 r3 r4 r5 s 0) (laneBox u r1 r2 r3 r4 r5 l 0)) := by
    unfold k0_pay34 k0_pay28 k0_pay30 k0_pay23 k0_pay25 k0_pay22
    pointwise
    rfl
  have hh : k0_pay35 u r5 r2 r4 (ix2 s l) = min (laneBox u r1 r2 r3 r4 r5 s 3) (laneBox u r1 r2 r3 r4 r5 l 3)
      - max (laneBox u r1 r2 r3 r4 r5 s 1) (laneBox u r1 r2 r3 r4 r5 l 1) := by
    unfold k0_pay35 k0_pay29 k0_pay31 k0_pay24 k0_pay26 k0_pay22
    pointwise
    rfl
  have hc : k0_pay32 u r5 r1 r2 r3 r4 (ix2 s 0) = Nms.area (laneBox u r1 r2 r3 r4 r5 s) := by
    unfold k0_pay32 k0_pay27 k0_pay23 k0_pay24 k0_pay25 k0_pay26 k0_pay22
    pointwise
    rfl
  have ha : k0_pay27 u r5 r1 r2 r3 r4 (ix1 l) = Nms.area (laneBox u r1 r2 r3 r4 r5 l) := by
    unfold k0_pay27 k0_pay23 k0_pay24 k0_pay25 k0_pay26 k0_pay22
    pointwise
    rfl
  revert hw hh hc ha
  generalize k0_pay34 u r5 r1 r3 = W
  generalize k0_pay35 u r5 r2 r4 = H
  generalize k0_pay32 u r5 r1 r2 r3 r4 = C
  generalize k0_pay27 u r5 r1 r2 r3 r4 = A
  intro hw hh hc ha
  have hm := upper_at s l
  revert hm
  generalize k0_pay1 = M
  intro hm
  unfold k0_pay36
  pointwise
  rw [hw, hh, hc, ha, hm, select_and]
  rfl

/-- A later row's lanes against a block's. -/
theorem later_at (s l : Fin 512) :
    Ideal.div (k0_pay13 u (k0_pay28 u r5 r1) (k0_pay29 u r5 r2) (k0_pay30 u r5 r3) (k0_pay31 u r5 r4) q5 q1 q2 q3 q4 (ix2 s l))
      (k0_pay14 u (k0_pay28 u r5 r1) (k0_pay29 u r5 r2) (k0_pay30 u r5 r3) (k0_pay31 u r5 r4) (k0_pay32 u r5 r1 r2 r3 r4) q5 q1 q2 q3 q4 (ix2 s l))
      = Nms.iou (laneBox u r1 r2 r3 r4 r5 s) (laneBox u q1 q2 q3 q4 q5 l) := by
  have hi : k0_pay13 u (k0_pay28 u r5 r1) (k0_pay29 u r5 r2) (k0_pay30 u r5 r3) (k0_pay31 u r5 r4) q5 q1 q2 q3 q4 (ix2 s l)
      = Nms.inter (laneBox u r1 r2 r3 r4 r5 s) (laneBox u q1 q2 q3 q4 q5 l) := by
    unfold k0_pay13 k0_pay28 k0_pay29 k0_pay30 k0_pay31 k0_pay23 k0_pay24 k0_pay25 k0_pay26 k0_pay22 k0_pay9 k0_pay10 k0_pay11 k0_pay12 k0_pay8
    pointwise
    rfl
  have hu : k0_pay14 u (k0_pay28 u r5 r1) (k0_pay29 u r5 r2) (k0_pay30 u r5 r3) (k0_pay31 u r5 r4) (k0_pay32 u r5 r1 r2 r3 r4) q5 q1 q2 q3 q4 (ix2 s l)
      = Nms.area (laneBox u r1 r2 r3 r4 r5 s) + Nms.area (laneBox u q1 q2 q3 q4 q5 l)
        - Nms.inter (laneBox u r1 r2 r3 r4 r5 s) (laneBox u q1 q2 q3 q4 q5 l) := by
    rw [← hi]
    unfold k0_pay14
    generalize k0_pay13 u (k0_pay28 u r5 r1) (k0_pay29 u r5 r2) (k0_pay30 u r5 r3) (k0_pay31 u r5 r4) q5 q1 q2 q3 q4 = I
    unfold k0_pay32 k0_pay27 k0_pay23 k0_pay24 k0_pay25 k0_pay26 k0_pay22 k0_pay9 k0_pay10 k0_pay11 k0_pay12 k0_pay8
    pointwise
    rfl
  rw [hi, hu]
  rfl

end Rows

section Round

variable (act : FVec Ideal S512 .f32) (ov : FVec Ideal S512x512 .f32) (r : FVec Ideal S512 .f32)
  (A R : Fin 512 → Prop) (O : Fin 512 → Fin 512 → Prop)
  (hA : ∀ l, act (ix1 l) = ind (A l)) (hO : ∀ s l, ov (ix2 s l) = ind (O s l)) (hR : ∀ l, r (ix1 l) = ind (R l))

include hA hO hR

/-- The lanes one round of the while newly retires. -/
theorem fresh_at (l : Fin 512) : k0_pay5 act ov r (ix1 l) = ind (fresh A O R l) := by
  unfold k0_pay5
  pointwise
  simp only [hA, hO, hR, Nms.one_sub_ind, Nms.ind_mul, Nms.sum_ind_zero, Nms.ite_ind, Nms.sum_ind_pos]
  rfl

/-- The retired lanes after the round. -/
theorem retired_at (l : Fin 512) : k0_pay6 act ov r (ix1 l) = ind (R l ∨ fresh A O R l) := by
  have e : k0_pay6 act ov r (ix1 l) = r (ix1 l) + k0_pay5 act ov r (ix1 l) := rfl
  rw [e, fresh_at act ov r A R O hA hO hR, hR, Nms.ind_add _ _ fun h f => f.2 h]

/-- The number of lanes the round newly retires. -/
theorem count_at : k0_pay7 act ov r = ∑ l, ind (fresh A O R l) := by
  have h := fresh_at act ov r A R O hA hO hR
  revert h
  unfold k0_pay7
  generalize k0_pay5 act ov r = w
  intro h
  pointwise
  exact Finset.sum_congr rfl fun x _ => h x

end Round

/-- The keep row. -/
theorem keep_at (v2 : IVec S512x512 1) (v45 : FVec Ideal S512 .f32) (v50 : FVec Ideal S512x1 .f32) (act : FVec Ideal S512 .f32)
    (W H : FVec Ideal S512x512 .f32) (r : FVec Ideal S512 .f32) (A R : Fin 512 → Prop) (O : Fin 512 → Fin 512 → Prop)
    (hA : ∀ l, act (ix1 l) = ind (A l)) (hO : ∀ s l, k0_pay36 v2 v45 v50 W H (ix2 s l) = ind (O s l)) (hR : ∀ l, r (ix1 l) = ind (R l))
    (l : Fin 512) : k0_pay38 v2 v45 v50 act W H r (ix1 l) = ind (A l ∧ ∀ y, ¬ ((A y ∧ ¬ R y) ∧ O y l)) := by
  unfold k0_pay38
  revert hO
  generalize k0_pay36 v2 v45 v50 W H = ov
  intro hO
  pointwise
  simp only [hA, hO, hR, Nms.one_sub_ind, Nms.ind_mul, Nms.sum_ind_zero, Nms.ite_ind]

/-- A push: a lane of a later row stays active if no kept lane overlaps it. -/
theorem push_at (keep : FVec Ideal S512 .f32) (I U : FVec Ideal S512x512 .f32) (row : Vec Ideal S1x512 .f32)
    (G B : Fin 512 → Prop) (P : Fin 512 → Fin 512 → Prop)
    (hG : ∀ l, keep (ix1 l) = ind (G l)) (hP : ∀ s l, half < Ideal.div (I (ix2 s l)) (U (ix2 s l)) ↔ P s l)
    (hB : ∀ l, row (ix2 0 l) = ind (B l)) (l : Fin 512) :
    k0_pay4 keep I U row (ix2 0 l) = ind (B l ∧ ∀ s, G s → ¬ P s l) := by
  unfold k0_pay4
  pointwise
  have e : ∀ x : Fin 512, keep (ix1 x) * (if Ideal.ofBits FTy.f32 1056964608#32 < Ideal.div (I (ix2 x l)) (U (ix2 x l)) then (1 : EReal) else 0)
      = ind (G x ∧ P x l) := fun x => by
    rw [hG, Nms.ite_ind, ← Nms.ind_mul, ← propext (hP x l)]
    rfl
  rw [Finset.sum_congr rfl fun x _ => e x]
  by_cases h : 0 < ∑ x, ind (G x ∧ P x l)
  · refine (if_pos h).trans (Nms.ind_neg ?_).symm
    rintro ⟨_, k⟩
    obtain ⟨x, g, p⟩ := (Nms.sum_ind_pos _).mp h
    exact k x g p
  · refine (if_neg h).trans ((hB l).trans (Nms.ind_congr ?_))
    rw [Nms.sum_ind_pos] at h
    push Not at h
    exact ⟨fun b => ⟨b, h⟩, fun b => b.1⟩

end Cert.Proof.KI

end
-- ==== Proof.KI.Greedy.lean ====
/-
  The kernel's result over the extended reals: position `512 j + l` is kept exactly when the greedy rule over all 20480
  positions keeps it, two positions overlapping when their lane boxes do and the later one's block is within reach of the
  earlier one's.
-/
module

public import proofs.«01_k».proof.Proof.KI.Lane
public import proofs.«01_k».proof.Proof.Nms.Order

@[expose] public section

noncomputable section

namespace Cert.Proof.KI

open Cert.KernelIdeal Cert.KernelIdeal.Gen

open Idealize.ShloMosaic

open Nms (ind sure fresh over half keepAt)

section While

variable (act : FVec Ideal S512 .f32) (ov : FVec Ideal S512x512 .f32) (A : Fin 512 → Prop) (O : Fin 512 → Fin 512 → Prop)
  (hA : ∀ l, act (ix1 l) = ind (A l)) (hO : ∀ s l, ov (ix2 s l) = ind (O s l))
  (G : Fin 512 → Prop) (hG : ∀ l, G l ↔ A l ∧ ∀ s, O s l → ¬ G s)

/-- Only suppressed lanes are retired, and with the flag down no round would retire another. -/
def Sound (s : FVec Ideal S512 .f32 × BitVec 32) : Prop :=
  ∃ R : Fin 512 → Prop, (∀ l, s.1 (ix1 l) = ind (R l)) ∧ (∀ l, R l → ∃ t, G t ∧ O t l) ∧ (¬ wgo s → ∀ l, ¬ fresh A O R l)

include hA hO hG

/-- A round keeps the loop sound. -/
theorem step_sound (s : FVec Ideal S512 .f32 × BitVec 32) (h : Sound A O G s) : Sound A O G (wstep act ov s) := by
  obtain ⟨R, hR, hs, -⟩ := h
  refine ⟨fun l => R l ∨ fresh A O R l, fun l => retired_at act ov s.1 A R O hA hO hR l, Nms.fresh_sound A O G hG R hs, fun hgo => ?_⟩
  have none : ∀ l, ¬ fresh A O R l := by
    by_contra hne
    push Not at hne
    refine hgo ?_
    have hc : (0 : EReal) < k0_pay7 act ov s.1 := by
      rw [count_at act ov s.1 A R O hA hO hR]
      exact (Nms.sum_ind_pos _).mpr hne
    have hb : Scalar.cmpf .ogt (k0_pay7 act ov s.1) (Scalar.ofBits .f32 0x00000000#32) = 1#1 := by
      show BitVec.ofBool (decide (f0 Ideal < k0_pay7 act ov s.1)) = 1#1
      rw [f0_ideal, decide_eq_true hc]
      rfl
    show Scalar.cmpi .sgt (Scalar.extui (Scalar.cmpf .ogt (k0_pay7 act ov s.1) (Scalar.ofBits .f32 0x00000000#32))) 0#32 = 1#1
    rw [hb]
    decide
  have e : (fun l => R l ∨ fresh A O R l) = R := funext fun l => propext (or_iff_left (none l))
  rw [e]
  exact none

/-- So do any number of rounds. -/
theorem run_sound : ∀ (n : ℕ) (s : FVec Ideal S512 .f32 × BitVec 32), Sound A O G s → Sound A O G (wrun act ov n s)
  | 0, _, h => h
  | n + 1, s, h => by
    rw [wrun]
    split
    · exact run_sound n _ (step_sound act ov A O hA hO G hG s h)
    · exact h

/-- After the while, the active lanes that no lane in play overlaps are the kept ones. -/
theorem run_kept (hlt : ∀ s l, O s l → s < l) :
    ∃ R : Fin 512 → Prop, (∀ l, (wrun act ov 513 (wstart (F := Ideal))).1 (ix1 l) = ind (R l))
      ∧ ∀ l, G l ↔ A l ∧ ∀ y, ¬ ((A y ∧ ¬ R y) ∧ O y l) := by
  have h0 : Sound A O G (wstart (F := Ideal)) :=
    ⟨fun _ => False, fun l => (f0_ideal : f0 Ideal = 0).trans (Nms.ind_neg not_false).symm, fun _ h => h.elim, fun h => absurd (by decide) h⟩
  obtain ⟨R, hR, hs, hend⟩ := run_sound act ov A O hA hO G hG 513 _ h0
  exact ⟨R, hR, Nms.kept_iff_sure A O G hG hlt R hs (hend (stops_ideal act ov))⟩

end While

section Blocks

variable (x0 : Vec Ideal S40 .i32) (x1 x2 x3 x4 x5 : Vec Ideal S40x512 .f32)

/-- Lane `l` of block `i`, as a box. -/
def blockBox (i : ℕ) (l : Fin 512) : Fin 4 → EReal :=
  laneBox (unitOf x3 x4) (rowOf x1 i) (rowOf x2 i) (rowOf x3 i) (rowOf x4 i) (rowOf x5 i) l

/-- Position `t`'s box. -/
def posBox (t : ℕ) : Fin 4 → EReal := blockBox x1 x2 x3 x4 x5 (t / 512) ⟨t % 512, Nat.mod_lt _ (by decide)⟩

/-- Positions `a` and `b` overlap, block `b / 512` being within reach of block `a / 512`. -/
def posOv (a b : ℕ) : Prop := over (posBox x1 x2 x3 x4 x5 a) (posBox x1 x2 x3 x4 x5 b) ∧ b / 512 < a / 512 + 1 + reach x0 (a / 512)

/-- Lane `l` of block `i` is not overlapped by a kept position below `512 j`. -/
def active (j i : ℕ) (l : Fin 512) : Prop :=
  ∀ a, a < 512 * j → keepAt (posOv x0 x1 x2 x3 x4 x5) a → ¬ posOv x0 x1 x2 x3 x4 x5 a (512 * i + l.val)

/-- Lane `l` of block `j` is kept. -/
def keptLane (j : ℕ) (l : Fin 512) : Prop := keepAt (posOv x0 x1 x2 x3 x4 x5) (512 * j + l.val)

/-- The box of a lane's position. -/
theorem posBox_lane (j : ℕ) (l : Fin 512) : posBox x1 x2 x3 x4 x5 (512 * j + l.val) = blockBox x1 x2 x3 x4 x5 j l := by
  have h1 : (512 * j + l.val) / 512 = j := by omega
  have h2 : (⟨(512 * j + l.val) % 512, Nat.mod_lt _ (by decide)⟩ : Fin 512) = l := Fin.ext (by show _ % _ = _; omega)
  unfold posBox
  rw [h2, h1]

/-- The overlap of two lanes' positions. -/
theorem posOv_lane (j i : ℕ) (s l : Fin 512) : posOv x0 x1 x2 x3 x4 x5 (512 * j + s.val) (512 * i + l.val)
    ↔ over (blockBox x1 x2 x3 x4 x5 j s) (blockBox x1 x2 x3 x4 x5 i l) ∧ i < j + 1 + reach x0 j := by
  unfold posOv
  rw [posBox_lane, posBox_lane, show (512 * j + s.val) / 512 = j by omega, show (512 * i + l.val) / 512 = i by omega]

/-- The greedy rule inside a block. -/
theorem keptLane_iff (j : ℕ) (l : Fin 512) : keptLane x0 x1 x2 x3 x4 x5 j l ↔ active x0 x1 x2 x3 x4 x5 j j l
    ∧ ∀ s, (s < l ∧ over (blockBox x1 x2 x3 x4 x5 j s) (blockBox x1 x2 x3 x4 x5 j l)) → ¬ keptLane x0 x1 x2 x3 x4 x5 j s := by
  unfold keptLane
  rw [Nms.keepAt_iff]
  constructor
  · intro h
    refine ⟨fun a ha => h a (by omega), fun s hs k => h _ (by have := hs.1; omega) k ((posOv_lane x0 x1 x2 x3 x4 x5 j j s l).mpr ⟨hs.2, by omega⟩)⟩
  · rintro ⟨h1, h2⟩ a ha k o
    by_cases hj : a < 512 * j
    · exact h1 a hj k o
    · obtain ⟨s, rfl⟩ : ∃ s : Fin 512, a = 512 * j + s.val := ⟨⟨a - 512 * j, by omega⟩, by show a = 512 * j + (a - 512 * j); omega⟩
      exact h2 s ⟨by omega, ((posOv_lane x0 x1 x2 x3 x4 x5 j j s l).mp o).1⟩ k

/-- One more block pushed. -/
theorem active_succ (j i : ℕ) (l : Fin 512) : active x0 x1 x2 x3 x4 x5 (j + 1) i l ↔ active x0 x1 x2 x3 x4 x5 j i l
    ∧ ∀ s, keptLane x0 x1 x2 x3 x4 x5 j s → ¬ (over (blockBox x1 x2 x3 x4 x5 j s) (blockBox x1 x2 x3 x4 x5 i l) ∧ i < j + 1 + reach x0 j) := by
  constructor
  · intro h
    refine ⟨fun a ha => h a (by omega), fun s k o => h _ (by omega) k ((posOv_lane x0 x1 x2 x3 x4 x5 j i s l).mpr o)⟩
  · rintro ⟨h1, h2⟩ a ha k o
    by_cases hj : a < 512 * j
    · exact h1 a hj k o
    · obtain ⟨s, rfl⟩ : ∃ s : Fin 512, a = 512 * j + s.val := ⟨⟨a - 512 * j, by omega⟩, by show a = 512 * j + (a - 512 * j); omega⟩
      exact h2 s k ((posOv_lane x0 x1 x2 x3 x4 x5 j i s l).mp o)

/-- A row below 40 is its own row. -/
theorem rw40_of_lt (i : ℕ) (hi : i < 40) : rw40 i = ⟨i, hi⟩ := Fin.ext (Nat.mod_eq_of_lt hi)

/-- Within a block: later lanes that overlap. -/
theorem own_block (j : ℕ) (s l : Fin 512) :
    ovDiag x1 x2 x3 x4 x5 j (ix2 s l) = ind (s < l ∧ over (blockBox x1 x2 x3 x4 x5 j s) (blockBox x1 x2 x3 x4 x5 j l)) :=
  own_at (unitOf x3 x4) (rowOf x1 j) (rowOf x2 j) (rowOf x3 j) (rowOf x4 j) (rowOf x5 j) s l

section Trip

variable (j : ℕ) (a : Vec Ideal S40x512 .f32) (hj : j < 40)
  (ha : ∀ i (hi : i < 40), j ≤ i → ∀ l, a (ix2 ⟨i, hi⟩ l) = ind (active x0 x1 x2 x3 x4 x5 j i l))

include hj ha

/-- The block's active lanes. -/
theorem act_at (l : Fin 512) : k0_pay33 (rowOf a j) (ix1 l) = ind (active x0 x1 x2 x3 x4 x5 j j l) := by
  have e : k0_pay33 (rowOf a j) (ix1 l) = rowOf a j (ix2 0 l) := by
    unfold k0_pay33
    pointwise
  have e' : rowOf a j (ix2 0 l) = a (ix2 (rw40 j) l) := congrArg a (ix2_eq_valueIdx _ _).symm
  rw [e, e', rw40_of_lt j hj, ha j hj le_rfl]

/-- Block `j`'s keep row: the kept lanes. -/
theorem keep_lane (l : Fin 512) :
    k0_pay38 k0_pay1 (areaOf x1 x2 x3 x4 x5 j) (caOf x1 x2 x3 x4 x5 j) (k0_pay33 (rowOf a j)) (wdOf x1 x3 x4 x5 j) (htOf x2 x3 x4 x5 j)
      (retOf x1 x2 x3 x4 x5 j a) (ix1 l) = ind (keptLane x0 x1 x2 x3 x4 x5 j l) := by
  obtain ⟨R, hR, hk⟩ := run_kept (k0_pay33 (rowOf a j)) (ovDiag x1 x2 x3 x4 x5 j) (active x0 x1 x2 x3 x4 x5 j j)
    (fun s l => s < l ∧ over (blockBox x1 x2 x3 x4 x5 j s) (blockBox x1 x2 x3 x4 x5 j l))
    (act_at x0 x1 x2 x3 x4 x5 j a hj ha) (own_block x1 x2 x3 x4 x5 j) (keptLane x0 x1 x2 x3 x4 x5 j)
    (keptLane_iff x0 x1 x2 x3 x4 x5 j) (fun _ _ h => h.1)
  rw [keep_at k0_pay1 (areaOf x1 x2 x3 x4 x5 j) (caOf x1 x2 x3 x4 x5 j) (k0_pay33 (rowOf a j)) (wdOf x1 x3 x4 x5 j) (htOf x2 x3 x4 x5 j)
    (retOf x1 x2 x3 x4 x5 j a) _ R _ (act_at x0 x1 x2 x3 x4 x5 j a hj ha) (own_block x1 x2 x3 x4 x5 j) hR l]
  exact Nms.ind_congr (hk l).symm

/-- The block's written row: the kept lanes. -/
theorem keepRow_at (l : Fin 512) : keepRow x1 x2 x3 x4 x5 j a (ix2 0 l) = ind (keptLane x0 x1 x2 x3 x4 x5 j l) := by
  refine Eq.trans ?_ (keep_lane x0 x1 x2 x3 x4 x5 j a hj ha l)
  unfold keepRow k0_pay39
  generalize k0_pay38 k0_pay1 (areaOf x1 x2 x3 x4 x5 j) (caOf x1 x2 x3 x4 x5 j) (k0_pay33 (rowOf a j)) (wdOf x1 x3 x4 x5 j) (htOf x2 x3 x4 x5 j)
      (retOf x1 x2 x3 x4 x5 j a) = w
  pointwise

/-- One push. -/
theorem pushRow_at (i : ℕ) (b : Vec Ideal S40x512 .f32) (B : Fin 512 → Prop) (hB : ∀ l, b (ix2 (rw40 i) l) = ind (B l)) (l : Fin 512) :
    pushRow x1 x2 x3 x4 x5 j a i b (ix2 0 l)
      = ind (B l ∧ ∀ s, keptLane x0 x1 x2 x3 x4 x5 j s → ¬ over (blockBox x1 x2 x3 x4 x5 j s) (blockBox x1 x2 x3 x4 x5 i l)) := by
  have hk := keep_lane x0 x1 x2 x3 x4 x5 j a hj ha
  have hl := later_at (unitOf x3 x4) (rowOf x1 j) (rowOf x2 j) (rowOf x3 j) (rowOf x4 j) (rowOf x5 j)
    (rowOf x1 i) (rowOf x2 i) (rowOf x3 i) (rowOf x4 i) (rowOf x5 i)
  refine push_at (k0_pay38 k0_pay1 (areaOf x1 x2 x3 x4 x5 j) (caOf x1 x2 x3 x4 x5 j) (k0_pay33 (rowOf a j)) (wdOf x1 x3 x4 x5 j)
      (htOf x2 x3 x4 x5 j) (retOf x1 x2 x3 x4 x5 j a)) _ _ (rowOf b i) (keptLane x0 x1 x2 x3 x4 x5 j) B
      (fun s l => over (blockBox x1 x2 x3 x4 x5 j s) (blockBox x1 x2 x3 x4 x5 i l)) hk (fun s l => ?_) (fun l => ?_) l
  · exact iff_of_eq (congrArg (half < ·) (hl s l))
  · exact (congrArg b (ix2_eq_valueIdx _ _).symm).trans (hB l)

/-- The scratch after `k` pushes. -/
theorem pushN_at : ∀ (k : ℕ) (i : ℕ) (hi : i < 40), j < i → ∀ l, pushN x1 x2 x3 x4 x5 j a k (ix2 ⟨i, hi⟩ l)
    = ind (active x0 x1 x2 x3 x4 x5 j i l
      ∧ ∀ s, keptLane x0 x1 x2 x3 x4 x5 j s → ¬ (over (blockBox x1 x2 x3 x4 x5 j s) (blockBox x1 x2 x3 x4 x5 i l) ∧ i < j + 1 + k))
  | 0, i, hi, hji, l => by
    rw [show pushN x1 x2 x3 x4 x5 j a 0 = a from rfl, ha i hi hji.le]
    exact Nms.ind_congr ⟨fun h => ⟨h, fun s _ o => by omega⟩, fun h => h.1⟩
  | k + 1, i, hi, hji, l => by
    have ih := pushN_at k
    have e : pushN x1 x2 x3 x4 x5 j a (k + 1) (ix2 ⟨i, hi⟩ l) = if i = j + 1 + k
        then pushRow x1 x2 x3 x4 x5 j a (j + 1 + k) (pushN x1 x2 x3 x4 x5 j a k) (ix2 0 l) else pushN x1 x2 x3 x4 x5 j a k (ix2 ⟨i, hi⟩ l) := by
      rw [ix2_eq_valueIdx (0 : Fin 1) l]
      rfl
    rw [e]
    split
    · next hik =>
      subst hik
      rw [pushRow_at x0 x1 x2 x3 x4 x5 j a hj ha _ _ _ (fun l => by rw [rw40_of_lt _ hi]; exact ih _ hi hji l)]
      refine Nms.ind_congr ⟨fun h => ⟨h.1.1, fun s k o => h.2 s k o.1⟩, fun h => ⟨⟨h.1, fun s k o => by omega⟩, fun s k o => h.2 s k ⟨o, by omega⟩⟩⟩
    · next hik =>
      rw [ih i hi hji l]
      refine Nms.ind_congr (and_congr_right fun _ => forall_congr' fun s => imp_congr_right fun _ => not_congr (and_congr_right fun _ => ?_))
      omega

end Trip

/-- The scratch before trip `j`: the active lanes of the blocks to come. -/
theorem actN_at : ∀ (j : ℕ), j ≤ 40 → ∀ i (hi : i < 40), j ≤ i → ∀ l,
    actN x0 x1 x2 x3 x4 x5 j (ix2 ⟨i, hi⟩ l) = ind (active x0 x1 x2 x3 x4 x5 j i l)
  | 0, _, i, hi, _, l => by
    refine (f1_ideal : f1 Ideal = 1).trans (Nms.ind_pos fun a ha => absurd ha (by omega)).symm
  | j + 1, hj, i, hi, hji, l => by
    have := pushN_at x0 x1 x2 x3 x4 x5 j (actN x0 x1 x2 x3 x4 x5 j) (by omega) (actN_at j (by omega)) (reach x0 j) i hi (by omega) l
    refine Eq.trans this (Nms.ind_congr (active_succ x0 x1 x2 x3 x4 x5 j i l).symm)

/-- The kernel's result block. -/
theorem keepOut_at (j : Fin 40) (l : Fin 512) :
    keepOut x0 x1 x2 x3 x4 x5 (ix2 j l) = ind (keepAt (posOv x0 x1 x2 x3 x4 x5) (512 * j.val + l.val)) := by
  refine Eq.trans ?_ (keepRow_at x0 x1 x2 x3 x4 x5 j.val (actN x0 x1 x2 x3 x4 x5 j.val) j.2 (actN_at x0 x1 x2 x3 x4 x5 j.val j.2.le) l)
  rw [ix2_eq_valueIdx (0 : Fin 1) l]
  rfl

end Blocks

end Cert.Proof.KI

end
-- ==== Proof.KI.Arrays.lean ====
/-
  The kernel's inputs at a lane, over the extended reals: the class-major order, the blocked arrays, the unit of the class
  offsets, and the table of range ends.
-/
module

public import proofs.«01_k».proof.Proof.KI.Prefix
public import proofs.«01_k».proof.Proof.Nms.Read
public import proofs.«01_k».proof.Proof.KI.Greedy

@[expose] public section

noncomputable section

namespace Cert.Proof.KI

open Cert.KernelIdeal Cert.KernelIdeal.Gen
open Idealize.ShloMosaic Idealize.ShloMosaic.TcCoe Idealize.ShloMosaic.StableHlo Idealize.SL.Sem Idealize.ShloMosaic.Tactic

/-- The printed order of two scores. -/
theorem cmp_score (l r : EReal × BitVec 32) : (comparator_f32_i32_d0 (F := Ideal) l r == 1#1) = decide (l.1 < r.1) := by
  rw [← Nms.cmp_olt_beq]
  have : comparator_f32_i32_d0 (F := Ideal) l r = Ideal.cmp .olt
    (Scalar.select (Ideal.cmp .une l.1 l.1) (Ideal.ofBits .f32 0x7FC00000#32) (Scalar.select (Ideal.cmp .oeq l.1 (Ideal.ofBits .f32 0x00000000#32)) (Ideal.ofBits .f32 0x00000000#32) l.1))
    (Scalar.select (Ideal.cmp .une r.1 r.1) (Ideal.ofBits .f32 0x7FC00000#32) (Scalar.select (Ideal.cmp .oeq r.1 (Ideal.ofBits .f32 0x00000000#32)) (Ideal.ofBits .f32 0x00000000#32) r.1)) := rfl
  rw [this, Nms.canon, Nms.canon]

/-- The bit of a lexicographic compare. -/
theorem lex_bits (P Q R : Prop) [Decidable P] [Decidable Q] [Decidable R] :
    (IntOp.ori (BitVec.ofBool (decide P)) (IntOp.andi (BitVec.ofBool (decide Q)) (BitVec.ofBool (decide R))) == 1#1) = decide (P ∨ Q ∧ R) := by
  by_cases hP : P <;> by_cases hQ : Q <;> by_cases hR : R <;> simp [hP, hQ, hR, IntOp.ori, IntOp.andi]

/-- The printed order of two rows: by class, then by score. -/
theorem cmp_class (l r : BitVec 32 × EReal × EReal × EReal × EReal × EReal × BitVec 32) :
    (comparator_i32_f32_f32_f32_f32_f32_i32_d0 (F := Ideal) l r == 1#1)
      = decide ((toLex (l.1.toInt, l.2.1) : ℤ ×ₗ EReal) < toLex (r.1.toInt, r.2.1)) := by
  have : comparator_i32_f32_f32_f32_f32_f32_i32_d0 (F := Ideal) l r = IntOp.ori (IntOp.cmpi .slt l.1 r.1) (IntOp.andi (IntOp.cmpi .eq l.1 r.1) (Ideal.cmp .olt
    (Scalar.select (Ideal.cmp .une l.2.1 l.2.1) (Ideal.ofBits .f32 0x7FC00000#32) (Scalar.select (Ideal.cmp .oeq l.2.1 (Ideal.ofBits .f32 0x00000000#32)) (Ideal.ofBits .f32 0x00000000#32) l.2.1))
    (Scalar.select (Ideal.cmp .une r.2.1 r.2.1) (Ideal.ofBits .f32 0x7FC00000#32) (Scalar.select (Ideal.cmp .oeq r.2.1 (Ideal.ofBits .f32 0x00000000#32)) (Ideal.ofBits .f32 0x00000000#32) r.2.1)))) := rfl
  rw [this, Nms.canon, Nms.canon]
  have h1 : IntOp.cmpi .slt l.1 r.1 = BitVec.ofBool (decide (l.1.toInt < r.1.toInt)) := rfl
  have h2 : IntOp.cmpi .eq l.1 r.1 = BitVec.ofBool (decide (l.1.toInt = r.1.toInt)) := by
    show BitVec.ofBool (l.1 == r.1) = _
    congr 1
    rw [Bool.eq_iff_iff, beq_iff_eq, decide_eq_true_iff, BitVec.toInt_inj]
  have h3 : Ideal.cmp .olt l.2.1 r.2.1 = BitVec.ofBool (decide (l.2.1 < r.2.1)) := rfl
  rw [h1, h2, h3, lex_bits]
  exact decide_eq_decide.mpr (Prod.Lex.toLex_lt_toLex (x := (l.1.toInt, l.2.1)) (y := (r.1.toInt, r.2.1))).symm

section Arrays

variable (b0 : Vec Ideal S20000x4 .f32) (b1 : Vec Ideal S20000 .f32) (b2 : Vec Ideal S20000 .i32)

/-- The boxes, scores and classes. -/
abbrev bx (p : Fin 20000) (k : Fin 4) : EReal := b0 (ix2 p k)
abbrev sc (p : Fin 20000) : EReal := b1 (ix1 p)
abbrev cl (p : Fin 20000) : BitVec 32 := b2 (ix1 p)

/-- A column sorted by class, at a position. -/
theorem byClass_at {α : Type} (x : S20000.Idx → α) (i : Fin 20000) :
    byClass b0 b1 b2 x (ix1 i) = x (ix1 (Nms.classSort (sc b1) (cl b2) i)) :=
  Nms.sortBy_at (comparator_i32_f32_f32_f32_f32_f32_i32_d0 (F := Ideal)) (keys b0 b1 b2) x
    (fun p q => decide ((toLex ((cl b2 p).toInt, -sc b1 p) : ℤ ×ₗ EReal) < toLex ((cl b2 q).toInt, -sc b1 q))) (fun p q => cmp_class _ _) i

/-- The score order's index, at a position. -/
theorem scoreOrder_at (i : Fin 20000) :
    (Host.sort2 S20000 0 comparator_f32_i32_d0 (Host.negf (F := Ideal) (φ := .f32) b1) (iotaInDim S20000 32 0)).2 (ix1 i) = BitVec.ofNat 32 (Nms.scoreSort (sc b1) i).val := by
  rw [Host.sort2_eq_sortBy]
  exact Nms.sortBy_at (comparator_f32_i32_d0 (F := Ideal)) (fun j => (Host.negf (F := Ideal) (φ := .f32) b1 j, iotaInDim S20000 32 0 j)) (iotaInDim S20000 32 0)
    (fun p q => decide (-sc b1 p < -sc b1 q)) (fun p q => cmp_score _ _) i

/-- The sorted scores, at a position. -/
theorem scoreSorted_at (i : Fin 20000) :
    Host.negf (F := Ideal) (φ := .f32) (Host.sort2 S20000 0 comparator_f32_i32_d0 (Host.negf (F := Ideal) (φ := .f32) b1) (iotaInDim S20000 32 0)).1 (ix1 i) = sc b1 (Nms.scoreSort (sc b1) i) := by
  rw [Host.sort2_eq_sortBy]
  refine Eq.trans (congrArg (fun x : EReal => -x) (Nms.sortBy_at (comparator_f32_i32_d0 (F := Ideal)) (fun j => (Host.negf (F := Ideal) (φ := .f32) b1 j, iotaInDim S20000 32 0 j)) (Host.negf (F := Ideal) (φ := .f32) b1)
    (fun p q => decide (-sc b1 p < -sc b1 q)) (fun p q => cmp_score _ _) i)) ?_
  exact neg_neg (sc b1 (Nms.scoreSort (sc b1) i))

/-- The boxes' four columns, at a row. -/
theorem col0_at (p : Fin 20000) : col0 b0 (ix1 p) = b0 (ix2 p 0) := by
  unfold col0; pointwise
theorem col1_at (p : Fin 20000) : col1 b0 (ix1 p) = b0 (ix2 p 1) := by
  unfold col1; pointwise
theorem col2_at (p : Fin 20000) : col2 b0 (ix1 p) = b0 (ix2 p 2) := by
  unfold col2; pointwise
theorem col3_at (p : Fin 20000) : col3 b0 (ix1 p) = b0 (ix2 p 3) := by
  unfold col3; pointwise

/-- A blocked array at a lane. -/
theorem blocks_at {α : Type} (x : S20000.Idx → α) (p : S480.Idx → α) (j : Fin 40) (l : Fin 512) :
    blocks x p (ix2 j l) = if h : 512 * j.val + l.val < 20000 then x (ix1 ⟨512 * j.val + l.val, h⟩)
      else p (ix1 ⟨512 * j.val + l.val - 20000, by omega⟩) := by
  unfold blocks
  pointwise
  simp only [mul_comm]

/-- The class of a lane as a number. -/
theorem clsF_at (x : S20000.Idx → BitVec 32) (p : S480.Idx → BitVec 32) (j : Fin 40) (l : Fin 512) :
    clsF (F := Ideal) x p (ix2 j l) = (((blocks x p (ix2 j l)).toInt : ℝ) : EReal) := by
  unfold clsF blocks
  pointwise
  rfl

/-- The blocks' first classes, along the rows of the compare. -/
theorem ends_lo (x : IVec S40x512 32) (i j : Fin 40) : (broadcastInDim S40x40 ![0, 1] bcast_S1x40_S40x40_0_1 (broadcastInDim S1x40 ![1] bcast_S40_S1x40_1
        (shapeCast S40 (extractStridedSlice S40x1 ![0, 0] x slices_S40x512_S40x1_0_0) shapeCasts_S40x1_S40))) (ix2 j i) = x (ix2 i 0) := by
  pointwise

/-- The blocks' last classes, down the columns of the compare. -/
theorem ends_hi (x : IVec S40x512 32) (i j : Fin 40) : (broadcastInDim S40x40 ![0, 1] bcast_S40x1_S40x40_0_1 (broadcastInDim S40x1 ![0] bcast_S40_S40x1_0
        (shapeCast S40 (extractStridedSlice S40x1 ![0, 511] x slices_S40x512_S40x1_0_511) shapeCasts_S40x1_S40))) (ix2 j i) = x (ix2 j 511) := by
  pointwise

end Arrays

end Cert.Proof.KI

end
-- ==== Proof.KI.Blocks.lean ====
/-
  The kernel's positions over the extended reals. For proper boxes the unit is one more than the greatest far coordinate, and
  position `t` holds the box of the `t`-th row in class-major order, offset by its class's multiple of that unit; and the table of range ends lets every block
  reach each later block holding one of its classes.
-/
module

public import proofs.«01_k».proof.Proof.KI.Arrays
public import proofs.«01_k».proof.Proof.Nms.Spec

@[expose] public section

noncomputable section

namespace Cert.Proof.KI

open Cert.KernelIdeal Cert.KernelIdeal.Gen
open Idealize.ShloMosaic Idealize.ShloMosaic.TcCoe Idealize.ShloMosaic.StableHlo Idealize.SL.Sem Idealize.ShloMosaic.Tactic

/-- A reshape has the same elements. -/
theorem forall_reshape {α : Type} {s t : Shape} (x : s.Idx → α) (h : s.ShapeCasts t) (P : α → Prop) :
    (∀ i, P (shapeCast t x h i)) ↔ ∀ i, P (x i) :=
  (Shape.reshapeEquiv h).forall_congr_right (q := fun i => P (x i))

/-- A kernel maximum over a whole array is at most `b` exactly when every element is. -/
theorem multi_max_le (y : FVec Ideal S1x40x512 .f32) (h : S1x40x512.Reduces [1, 2] S1) (b : EReal) (j : S1.Idx) (hφ : FKind.Formats .f32)
    (hacc : 0xFF800000#32 = FKind.maximumf.neutral .f32 hφ) :
    multiReduction (F := Ideal) .maximumf [1, 2] S1 y 0xFF800000#32 h hφ hacc j ≤ b ↔ ∀ i, y i ≤ b := by
  have hf : ∀ (S : Finset S1x40x512.Idx) (a : EReal) (f : S1x40x512.Idx → EReal),
      S.fold (FloatOps.maximumf (F := Ideal) (φ := .f32)) a f ≤ b ↔ a ≤ b ∧ ∀ i ∈ S, f i ≤ b :=
    fun S a f => Finset.fold_max_le b
  have hall : ∀ i, h.drop i = j := fun i => funext fun a => by
    match a with
    | ⟨0, _⟩ => exact Subsingleton.elim (α := Fin 1) _ _
  rw [multiReduction_maximumf_eq_fold]
  refine (hf _ _ _).trans ⟨fun hh i => hh.2 i (Finset.mem_filter.mpr ⟨Finset.mem_univ _, hall i⟩), fun hh => ⟨?_, fun i _ => hh i⟩⟩
  show Ideal.ofBits .f32 0xFF800000#32 ≤ b
  rw [Nms.ofBits_neg_inf]
  exact bot_le

/-- The one element of a one-element array. -/
theorem extract_one (v : FVec Ideal S1 .f32) : ∃ j, extractAt ![0, 0, 0] (shapeCast S1x1x1 v shapeCasts_S1_S1x1x1) inpos_S1x1x1_p0_0_0 = v j :=
  ⟨_, rfl⟩

/-- A kernel maximum of a reshaped array, taken out, is at most `b` exactly when every element is. -/
theorem extract_max_le (x : Vec Ideal S40x512 .f32) (b : EReal) :
    extractAt ![0, 0, 0] (shapeCast S1x1x1 (multiReduction (F := Ideal) .maximumf [1, 2] S1 (shapeCast S1x40x512
      (shapeCast S40x512 x shapeCasts_S40x512_S40x512) shapeCasts_S40x512_S1x40x512) 0xFF800000#32 reduces_S1x40x512_S1 (.inl rfl) rfl)
      shapeCasts_S1_S1x1x1) inpos_S1x1x1_p0_0_0 ≤ b ↔ ∀ i, x i ≤ b := by
  refine Iff.trans ?_ ((forall_reshape (shapeCast S40x512 x shapeCasts_S40x512_S40x512) shapeCasts_S40x512_S1x40x512 (· ≤ b)).trans
    (forall_reshape x shapeCasts_S40x512_S40x512 (· ≤ b)))
  generalize shapeCast S1x40x512 (shapeCast S40x512 x shapeCasts_S40x512_S40x512) shapeCasts_S40x512_S1x40x512 = y
  obtain ⟨j, e⟩ := extract_one (multiReduction (F := Ideal) .maximumf [1, 2] S1 y 0xFF800000#32 reduces_S1x40x512_S1 (.inl rfl) rfl)
  rw [e]
  exact multi_max_le y _ b j _ _

/-- The printed unit is one more than the greatest far corner. -/
theorem unit_eq (x3 x4 : Vec Ideal S40x512 .f32) (M : EReal) (h : ∀ b, M ≤ b ↔ (∀ i, x3 i ≤ b) ∧ ∀ i, x4 i ≤ b) :
    k0_pay2 (F := Ideal) x3 x4 = M + 1 := by
  have h1 : Ideal.ofBits .f32 0x3F800000#32 = 1 := by pointwise
  refine (show k0_pay2 (F := Ideal) x3 x4 = max _ _ + Ideal.ofBits .f32 0x3F800000#32 from rfl).trans ?_
  rw [h1]
  refine congrArg (fun a : EReal => a + 1) ?_
  refine eq_of_forall_ge_iff fun b => ?_
  rw [max_le_iff, h]
  exact and_congr (extract_max_le x3 b) (extract_max_le x4 b)

/-- The fill word. -/
theorem fill_word : Ideal.ofBits .f32 3396609024#32 = ((-4000000 : ℝ) : EReal) := by
  simp [Ideal.ofBits, Ideal.ieee]
  rw [← EReal.coe_mul]
  norm_num

/-- The far corners' fill is not positive. -/
theorem fillHi_at (i : Fin 480) : (fillHi (F := Ideal)) (ix1 i) ≤ 0 := by
  unfold fillHi fillLo
  pointwise
  rw [fill_word, ← EReal.coe_one, ← EReal.coe_add, ← EReal.coe_zero, EReal.coe_le_coe_iff]
  norm_num

/-- A printed compare of two read words. -/
theorem sle_read (a b a' b' : BitVec 32) (ha : a = a') (hb : b = b') : IntOp.cmpi .sle a b = 1#1 ↔ a'.toInt ≤ b'.toInt := by
  subst ha hb
  show BitVec.ofBool (decide (a.toInt ≤ b.toInt)) = 1#1 ↔ _
  by_cases h : a.toInt ≤ b.toInt <;> simp [h]

/-- A block's range end counts the blocks whose first class is at most its last. -/
theorem ends_at (x : IVec S40x512 32) (j : Fin 40) :
    endsTable x (ix1 j) = BitVec.ofNat 32 (Finset.univ.filter fun i : Fin 40 => (x (ix2 i 0)).toInt ≤ (x (ix2 j 511)).toInt).card := by
  unfold endsTable
  rw [Host.reduce_eq_fold_single IntOp.addi _ _ _ (by decide : S40x40.Reduces [1] S40) h_S_]
  refine (IndicatorCount.fold_addi_setWidth_eq_card (w := 32) (fun k => cmpi .sle _ _ ((by decide : S40x40.Reduces [1] S40).lift (ix1 j) k)) _).trans ?_
  congr 2
  refine Finset.filter_congr fun (i : Fin 40) _ => ?_
  have e : (by decide : S40x40.Reduces [1] S40).lift (ix1 j) i = ix2 j i := by
    funext a; match a with | ⟨0, _⟩ => rfl | ⟨1, _⟩ => rfl
  rw [e]
  exact sle_read _ _ _ _ (ends_lo x i j) (ends_hi x i j)

section Positions

variable (b0 : Vec Ideal S20000x4 .f32) (b1 : Vec Ideal S20000 .f32) (b2 : Vec Ideal S20000 .i32)

/-- The six blocked inputs. -/
abbrev X1 : Vec Ideal S40x512 .f32 := blocks (byClass b0 b1 b2 (col0 b0)) fillLo
abbrev X2 : Vec Ideal S40x512 .f32 := blocks (byClass b0 b1 b2 (col1 b0)) fillLo
abbrev X3 : Vec Ideal S40x512 .f32 := blocks (byClass b0 b1 b2 (col2 b0)) fillHi
abbrev X4 : Vec Ideal S40x512 .f32 := blocks (byClass b0 b1 b2 (col3 b0)) fillHi
abbrev X5 : Vec Ideal S40x512 .f32 := clsF (byClass b0 b1 b2 b2) fillCls
abbrev XC : Vec Ideal S40x512 .i32 := blocks (byClass b0 b1 b2 b2) fillCls
abbrev X0 : Vec Ideal S40 .i32 := endsTable (XC b0 b1 b2)

/-- The class-major order. -/
abbrev srt : Fin 20000 → Fin 20000 := Nms.classSort (sc b1) (cl b2)

/-- A blocked sorted array at a real position. -/
theorem sorted_at {α : Type} (x : S20000.Idx → α) (p : S480.Idx → α) (j : Fin 40) (l : Fin 512) (h : 512 * j.val + l.val < 20000) :
    blocks (byClass b0 b1 b2 x) p (ix2 j l) = x (ix1 (srt b1 b2 ⟨512 * j.val + l.val, h⟩)) := by
  rw [blocks_at, dif_pos h, byClass_at]

/-- A bound on the blocked array bounds every row. -/
theorem rows_le (x : FVec Ideal S20000 .f32) (p : FVec Ideal S480 .f32) (b : EReal) (h : ∀ i, blocks (byClass b0 b1 b2 x) p i ≤ b)
    (q : Fin 20000) : x (ix1 q) ≤ b := by
  obtain ⟨i, rfl⟩ : ∃ i, srt b1 b2 i = q :=
    sortedFrom_surjective (fun p q => decide ((toLex ((cl b2 p).toInt, -sc b1 p) : ℤ ×ₗ EReal) < toLex ((cl b2 q).toInt, -sc b1 q))) q
  have e := h (ix2 ⟨i.val / 512, by omega⟩ ⟨i.val % 512, by omega⟩)
  rw [sorted_at b0 b1 b2 x p _ _ (by show 512 * (i.val / 512) + i.val % 512 < 20000; omega)] at e
  have e' : (⟨512 * (i.val / 512) + i.val % 512, by omega⟩ : Fin 20000) = i := Fin.ext (by show 512 * (i.val / 512) + i.val % 512 = i.val; omega)
  exact (congrArg (fun i => x (ix1 (srt b1 b2 i)) ≤ b) e').mp e

/-- A bound on every row and on the fill bounds the blocked array. -/
theorem blocks_le (x : FVec Ideal S20000 .f32) (p : FVec Ideal S480 .f32) (b : EReal) (hp : ∀ i, p (ix1 i) ≤ b)
    (h : ∀ q, x (ix1 q) ≤ b) (i : S40x512.Idx) : blocks (byClass b0 b1 b2 x) p i ≤ b := by
  obtain ⟨j, l, rfl⟩ : ∃ (j : Fin 40) (l : Fin 512), i = ix2 j l := ⟨i 0, i 1, by
    funext a; match a with | ⟨0, _⟩ => rfl | ⟨1, _⟩ => rfl⟩
  rw [blocks_at]
  split
  · rw [byClass_at]; exact h _
  · exact hp _

/-- For proper boxes the kernel's unit is one more than the greatest far coordinate. -/
theorem unit_proper (h : Nms.Proper (bx b0)) : unitOf (X3 b0 b1 b2) (X4 b0 b1 b2) = Nms.mxFar (bx b0) + 1 := by
  refine unit_eq _ _ _ fun b => ?_
  rw [Nms.mxFar_le_iff]
  constructor
  · intro hb
    have h0 : (0 : EReal) ≤ b := (h 0 2).1.trans (hb 0).1
    refine ⟨blocks_le b0 b1 b2 _ _ b (fun i => (fillHi_at i).trans h0) fun q => ?_,
      blocks_le b0 b1 b2 _ _ b (fun i => (fillHi_at i).trans h0) fun q => ?_⟩
    · rw [col2_at]; exact (hb q).1
    · rw [col3_at]; exact (hb q).2
  · intro ⟨h3, h4⟩ q
    have g3 := rows_le b0 b1 b2 _ _ b h3 q
    have g4 := rows_le b0 b1 b2 _ _ b h4 q
    rw [col2_at] at g3
    rw [col3_at] at g4
    exact ⟨g3, g4⟩

/-- A real position holds its row's box, offset. -/
theorem posBox_proper (h : Nms.Proper (bx b0)) (t : ℕ) (ht : t < 20000) :
    posBox (X1 b0 b1 b2) (X2 b0 b1 b2) (X3 b0 b1 b2) (X4 b0 b1 b2) (X5 b0 b1 b2) t = Nms.offBy (bx b0) (cl b2) (Nms.mxFar (bx b0) + 1) (srt b1 b2 ⟨t, ht⟩) := by
  have e' : (⟨512 * (⟨t / 512, by omega⟩ : Fin 40).val + (⟨t % 512, Nat.mod_lt _ (by decide)⟩ : Fin 512).val,
      by show 512 * (t / 512) + t % 512 < 20000; omega⟩ : Fin 20000) = ⟨t, ht⟩ := Fin.ext (by show 512 * (t / 512) + t % 512 = t; omega)
  have at_ : ∀ {α : Type} (x : S20000.Idx → α) (p : S480.Idx → α),
      blocks (byClass b0 b1 b2 x) p (ix2 ⟨t / 512, by omega⟩ ⟨t % 512, Nat.mod_lt _ (by decide)⟩) = x (ix1 (srt b1 b2 ⟨t, ht⟩)) := by
    intro α x p
    rw [sorted_at b0 b1 b2 x p _ _ (by show 512 * (t / 512) + t % 512 < 20000; omega), e']
  have row : ∀ x : Vec Ideal S40x512 .f32, rowOf x (t / 512) (ix2 0 ⟨t % 512, Nat.mod_lt _ (by decide)⟩)
      = x (ix2 ⟨t / 512, by omega⟩ ⟨t % 512, Nat.mod_lt _ (by decide)⟩) := by
    intro x
    have e : rowOf x (t / 512) (ix2 0 ⟨t % 512, Nat.mod_lt _ (by decide)⟩) = x (ix2 (rw40 (t / 512)) ⟨t % 512, Nat.mod_lt _ (by decide)⟩) :=
      congrArg x (ix2_eq_valueIdx _ _).symm
    rw [e, rw40_of_lt _ (by omega)]
  have e1 := (at_ (col0 b0) fillLo).trans (col0_at b0 _)
  have e2 := (at_ (col1 b0) fillLo).trans (col1_at b0 _)
  have e3 := (at_ (col2 b0) fillHi).trans (col2_at b0 _)
  have e4 := (at_ (col3 b0) fillHi).trans (col3_at b0 _)
  have e5 := clsF_at (byClass b0 b1 b2 b2) fillCls ⟨t / 512, by omega⟩ ⟨t % 512, Nat.mod_lt _ (by decide)⟩
  rw [at_ b2 fillCls] at e5
  unfold posBox blockBox laneBox
  rw [unit_proper b0 b1 b2 h, row, row, row, row, row]
  refine (congr (congr (congr (congr (congrArg (fun a b c d e : EReal => (![a + e * (Nms.mxFar (bx b0) + 1), b + e * (Nms.mxFar (bx b0) + 1),
    c + e * (Nms.mxFar (bx b0) + 1), d + e * (Nms.mxFar (bx b0) + 1)] : Fin 4 → EReal)) e1) e2) e3) e4) e5).trans ?_
  funext k
  match k with
  | 0 => rfl
  | 1 => rfl
  | 2 => rfl
  | 3 => rfl

/-- Earlier positions have lower classes. -/
theorem class_mono (a b : Fin 20000) (h : a ≤ b) : (cl b2 (srt b1 b2 a)).toInt ≤ (cl b2 (srt b1 b2 b)).toInt := by
  have mono := Nms.sortedFrom_strictMono (fun p => (toLex ((cl b2 p).toInt, -sc b1 p) : ℤ ×ₗ EReal))
    (fun p q => decide ((toLex ((cl b2 p).toInt, -sc b1 p) : ℤ ×ₗ EReal) < toLex ((cl b2 q).toInt, -sc b1 q))) (fun _ _ => rfl)
  have := mono.monotone h
  have h1 := (Prod.Lex.toLex_le_toLex.mp this)
  rcases h1 with h1 | h1
  · rcases Prod.Lex.toLex_lt_toLex.mp h1 with h2 | h2
    · exact h2.le
    · exact h2.1.le
  · have := congrArg (fun z => (ofLex z).1) h1.1
    exact le_of_eq this

/-- A block reaches every later block that holds one of its last class's rows. -/
theorem reach_of_class (a b : ℕ) (hab : a < b) (hb : b < 20000)
    (e : (cl b2 (srt b1 b2 ⟨a, hab.trans hb⟩)).toInt = (cl b2 (srt b1 b2 ⟨b, hb⟩)).toInt) :
    b / 512 < a / 512 + 1 + reach (X0 b0 b1 b2) (a / 512) := by
  by_cases hs : b / 512 ≤ a / 512
  · omega
  have hlt : a / 512 < b / 512 := by omega
  unfold reach endOf
  set S := Finset.univ.filter fun i : Fin 40 => (XC b0 b1 b2 (ix2 i 0)).toInt ≤ (XC b0 b1 b2 (ix2 ⟨a / 512, by omega⟩ 511)).toInt with hS
  have hE : X0 b0 b1 b2 (ValueIdx.ix1 (rw40 (a / 512))) = BitVec.ofNat 32 S.card := by
    rw [rw40_of_lt _ (by omega)]
    exact (congrArg (X0 b0 b1 b2) (ix1_eq_valueIdx _).symm).trans (ends_at (XC b0 b1 b2) ⟨a / 512, by omega⟩)
  rw [hE]
  have hcard : S.card ≤ 40 := (Finset.card_filter_le _ _).trans (le_of_eq (Finset.card_fin 40))
  have hsub : (Finset.univ.filter fun i : Fin 40 => i.val < b / 512 + 1) ⊆ S := by
    intro i hi
    rw [Finset.mem_filter] at hi
    rw [hS, Finset.mem_filter]
    refine ⟨Finset.mem_univ _, ?_⟩
    have hi2 : 512 * i.val + (0 : Fin 512).val < 20000 := by show 512 * i.val + 0 < 20000; omega
    have ha2 : 512 * (a / 512) + (511 : Fin 512).val < 20000 := by show 512 * (a / 512) + 511 < 20000; omega
    have s1 := sorted_at b0 b1 b2 b2 fillCls i 0 hi2
    have s2 := sorted_at b0 b1 b2 b2 fillCls ⟨a / 512, by omega⟩ 511 ha2
    show (blocks (byClass b0 b1 b2 b2) fillCls (ix2 i 0)).toInt ≤ (blocks (byClass b0 b1 b2 b2) fillCls (ix2 ⟨a / 512, by omega⟩ 511)).toInt
    rw [s1, s2]
    refine (class_mono b1 b2 _ ⟨b, hb⟩ (by show 512 * i.val + 0 ≤ b; omega)).trans (e.symm.le.trans (class_mono b1 b2 ⟨a, _⟩ _ (by show a ≤ 512 * (a / 512) + 511; omega)))
  have hc := Finset.card_le_card hsub
  have hn : (Finset.univ.filter fun i : Fin 40 => i.val < b / 512 + 1).card = b / 512 + 1 := by
    rw [Fin.card_filter_val_lt]
    omega
  rw [toInt_ofNat_of_lt (k := S.card) (by omega)]
  omega

/-- Over the real positions the kernel's overlap relation is the class-major overlap of offset boxes. -/
theorem posOv_iff (h : Nms.Proper (bx b0)) (a b : ℕ) (hab : a < b) (hb : b < 20000) :
    posOv (X0 b0 b1 b2) (X1 b0 b1 b2) (X2 b0 b1 b2) (X3 b0 b1 b2) (X4 b0 b1 b2) (X5 b0 b1 b2) a b
      ↔ Nms.onPos (srt b1 b2) (Nms.overlaps (bx b0) (cl b2)) a b := by
  unfold posOv Nms.onPos
  rw [posBox_proper b0 b1 b2 h a (hab.trans hb), posBox_proper b0 b1 b2 h b hb]
  rw [Nms.over_far_iff (bx b0) (cl b2) h]
  constructor
  · exact fun o => ⟨hab.trans hb, hb, o.1⟩
  · rintro ⟨ha', hb', o⟩
    exact ⟨o, reach_of_class b0 b1 b2 a b hab hb (Nms.overlaps_class (bx b0) (cl b2) h _ _ o)⟩

/-- The kernel keeps exactly the class-major greedy rule's positions. -/
theorem keep_proper (h : Nms.Proper (bx b0)) (j : Fin 40) (l : Fin 512)
    (ht : 512 * j.val + l.val < 20000) :
    keepOut (X0 b0 b1 b2) (X1 b0 b1 b2) (X2 b0 b1 b2) (X3 b0 b1 b2) (X4 b0 b1 b2) (X5 b0 b1 b2) (ix2 j l)
      = Nms.ind (Nms.keepAt (Nms.onPos (srt b1 b2) (Nms.overlaps (bx b0) (cl b2))) (512 * j.val + l.val)) := by
  rw [keepOut_at]
  exact Nms.ind_congr (Nms.keepAt_congr _ _ 20000 (fun a b hab hb => posOv_iff b0 b1 b2 h a b hab hb) _ ht)

end Positions

end Cert.Proof.KI

end
-- ==== Proof.KI.Result.lean ====
/-
  The kernel's program run, its two results read off the final memory.
-/
module

public import proofs.«01_k».proof.Proof.KI.Prefix

@[expose] public section

noncomputable section

namespace Cert.Proof.KI

open Cert.KernelIdeal Cert.KernelIdeal.Gen
open Idealize.ShloMosaic Idealize.ShloMosaic.TcCoe Idealize.ShloMosaic.StableHlo Idealize.SL.Sem Idealize.ShloMosaic.Tactic
open Idealize.ShloMosaic.Pipeline (Dat Cfg Window BodyObligation cellOf)

variable {F : FTy → Type} [FloatOps F]
variable (m : (ℓ : Loc nD τ sig) → Buf (Elt F) ℓ)

/-- The kernel's result array. -/
def keptBlocks (c : Dev nD) : Vec F S40x512 .f32 :=
  keepOut (V m c main_v26) (V m c main_v29) (V m c main_v31) (V m c main_v35) (V m c main_v39) (V m c main_v41)

/-- The one write-back writes it: its block is the whole array. -/
theorem flushed_eq (c : Dev nD) (t : Fin (cfg0 (F := F)).N) :
    (dats m 0 c).flushed 6 t = ((cfg0.win 6).blk t).view.read (Elt F) (keptBlocks m c) := by
  show (cfg0.win 6).cut (grid0.coords t) ((dats m 0 c).after 6 t) = _
  rw [after0_6]
  unfold outsAt
  rw [iblk0, iblk1, iblk2, iblk3, iblk4, iblk5]
  show (cfg0.win 6).cut (grid0.coords t) (keptBlocks m c) = _
  generalize keptBlocks m c = K
  funext (y : S40x512.Idx)
  refine congrArg K (funext fun a => Fin.ext ?_)
  match a with
  | ⟨0, _⟩ => show (y 0).val = 0 * 40 + 1 * (y 0).val; omega
  | ⟨1, _⟩ => show (y 1).val = 0 * 512 + 1 * (y 1).val; omega

/-- The one point's block covers the array. -/
theorem cover (i : S40x512.Idx) : ∃ t : Fin (cfg0 (F := F)).N, ((cfg0 (F := F)).win 6).flush t = true ∧ i ∈ (((cfg0 (F := F)).win 6).blk t).view.set := by
  have h0 : (i 0 : Nat) < 40 := (i 0).isLt
  have h1 : (i 1 : Nat) < 512 := (i 1).isLt
  have hN : (cfg0 (F := F)).N = 1 := N_0
  have ht : 0 < (cfg0 (F := F)).N := by omega
  refine ⟨⟨0, ht⟩, flush0_6 _, ?_⟩
  show i ∈ ((View.whole main_v42).slice (win0_6.rect ⟨0, ht⟩)).set
  rw [View.set_slice_whole, Rect.mem_set_unit]
  intro a
  match a with
  | ⟨0, _⟩ => show 0 * 40 ≤ (i 0 : Nat) ∧ (i 0 : Nat) < 0 * 40 + 40; omega
  | ⟨1, _⟩ => show 0 * 512 ≤ (i 1 : Nat) ∧ (i 1 : Nat) < 0 * 512 + 512; omega

/-- The kernel's array at the end. -/
theorem final_blocks (c : Dev nD) : (dats m 0 c).arrAt 6 (cfg0 (F := F)).N = keptBlocks m c :=
  (dats m 0 c).arrAt_eq_of_cover 6 (keptBlocks m c) (fun t _ => flushed_eq m c t) cover

/-- The keep mask in the scores' order, and the two results. -/
def outMask (c : Dev nD) : IVec S20000 1 := maskOf (keptBlocks m c) (V m c main_v12_6) (V m c main_v2_1)
/-- The kept indices. -/
def outIdx (c : Dev nD) : Vec F S20000 .i32 :=
  select (outMask m c) (V m c main_v2_1) (broadcastInDim S20000 ![] bcast_S_S20000 (constantI S_ 32 4294967295#32))
/-- The kept scores. -/
def outScore (c : Dev nD) : Vec F S20000 .f32 :=
  select (outMask m c) (V m c main_v3) (broadcastInDim S20000 ![] bcast_S_S20000 (constant S_ .f32 0x00000000#32))

/-- What the host lines after the kernel begin with. -/
abbrev WA (c : Dev nD) : Valuation τ sig (Elt F) :=
  Pipeline.withArrays spec0 c (V0 m c) fun w => (dats m 0 c).arrAt w (cfg0 (F := F)).N

/-- The four buffers the last host lines read. -/
theorem WA_v42 (c : Dev nD) : WA m c (Proc.devRef .tc main_v42) = keptBlocks m c :=
  (Pipeline.withArrays_arr spec0 (by decide) c (V0 m c) (fun w => (dats m 0 c).arrAt w (cfg0 (F := F)).N) 6).trans (final_blocks m c)
theorem WA_v12 (c : Dev nD) : WA m c (Proc.devRef .tc main_v12_6) = V m c main_v12_6 :=
  Pipeline.withArrays_of_ne spec0 c (V0 m c) _ main_v12_6 (by exact (by decide : ∀ w, Pipeline.arrRef spec0 w ≠ main_v12_6))
theorem WA_v2 (c : Dev nD) : WA m c (Proc.devRef .tc main_v2_1) = V m c main_v2_1 :=
  Pipeline.withArrays_of_ne spec0 c (V0 m c) _ main_v2_1 (by exact (by decide : ∀ w, Pipeline.arrRef spec0 w ≠ main_v2_1))
theorem WA_v3 (c : Dev nD) : WA m c (Proc.devRef .tc main_v3) = V m c main_v3 :=
  Pipeline.withArrays_of_ne spec0 c (V0 m c) _ main_v3 (by exact (by decide : ∀ w, Pipeline.arrRef spec0 w ≠ main_v3))

/-- The two results after the last host lines. -/
theorem tail_v62 (c : Dev nD) : Pipeline.afterTail₀ (cfgs (F := F)) (dats m) 0 (V0 m) [hostOps1, hostOps1_1, hostOps1_2, hostOps1_3] c main_v62 = outIdx m c := by
  refine (post_v62 (WA m c)).trans ?_
  rw [WA_v42, WA_v12, WA_v2]
  rfl
theorem tail_v63 (c : Dev nD) : Pipeline.afterTail₀ (cfgs (F := F)) (dats m) 0 (V0 m) [hostOps1, hostOps1_1, hostOps1_2, hostOps1_3] c main_v63 = outScore m c := by
  refine (post_v63 (WA m c)).trans ?_
  rw [WA_v42, WA_v12, WA_v2, WA_v3]
  rfl

/-- The run: the two results, and the arguments unchanged. -/
theorem run_results (ρ : Dev nD → PrngReg) (hstop : Stops F) : θ_run defs (onTc (τ := τ) (main (F := F))) ⟨m, fun _ => 0, ρ⟩ (fun r => ∀ c : Dev nD,
      r.2.mem ((c.tc : Thread nD τ).loc main_v62) = outIdx m c
      ∧ r.2.mem ((c.tc : Thread nD τ).loc main_v63) = outScore m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v62 (Pipeline.mem_restRefs_of main_v62 (by decide) (by exact (by decide : ∀ w, Pipeline.arrRef spec0 w ≠ main_v62)))).trans (tail_v62 m c),
      ((h.1 c).2 main_v63 (Pipeline.mem_restRefs_of main_v63 (by decide) (by exact (by decide : ∀ w, Pipeline.arrRef spec0 w ≠ main_v63)))).trans (tail_v63 m c),
      h.2.1 c⟩)
    (θ_run_and (run_main m ρ hstop (endsOk m)) (frame_of_facts m ρ hstop (endsOk m)))

end Cert.Proof.KI

end
-- ==== Proof.KI.Value.lean ====
/-
  The kernel's two results over the extended reals, for proper boxes: the greedy rule's kept indices
  and kept scores.
-/
module

public import proofs.«01_k».proof.Proof.KI.Blocks
public import proofs.«01_k».proof.Proof.KI.Result
public import Idealize.ShloMosaic.Lib.Routing.OpsSet
public import Idealize.ShloMosaic.Lib.DynamicIndex

@[expose] public section

noncomputable section

namespace Cert.Proof.KI

open Cert.KernelIdeal Cert.KernelIdeal.Gen
open Idealize.ShloMosaic Idealize.ShloMosaic.TcCoe Idealize.ShloMosaic.StableHlo Idealize.SL.Sem Idealize.ShloMosaic.Tactic

/-- A position's word, wrapped: itself. -/
theorem wrap_word (k : ℕ) (hk : k < 20000) (w : BitVec 32) :
    Scalar.select (IntOp.cmpi .slt (BitVec.ofNat 32 k) 0#32) w (BitVec.ofNat 32 k) = BitVec.ofNat 32 k :=
  select_slt_zero_of_nonneg (s := S_) (fun _ => BitVec.ofNat 32 k) (fun _ => w) (fun _ => BitVec.ofNat 32 k) (Shape.Idx.first h_S_)
    (by rw [toInt_ofNat_of_lt (by omega)]; omega)

/-- A wrapped index, at a position. -/
theorem wrap_at (x : IVec S20000 32) (i : Fin 20000) (k : Fin 20000) (h : x (ix1 i) = BitVec.ofNat 32 k.val) :
    wrapPos x (ix2 i (0 : Fin 1)) = BitVec.ofNat 32 k.val := by
  unfold wrapPos
  pointwise
  rw [h]
  exact wrap_word _ k.isLt _

/-- The flattened blocks at a real position. -/
theorem flat_at (k : Vec Ideal S40x512 .f32) (a : Fin 20000) :
    extractStridedSlice S20000 ![0] (shapeCast S20480 k shapeCasts_S40x512_S20480) slices_S20480_S20000_0 (ix1 a)
      = k (ix2 ⟨a.val / 512, by omega⟩ ⟨a.val % 512, by omega⟩) := by
  pointwise

/-- The printed test of an indicator. -/
theorem test_ind (P : Prop) : Ideal.cmp .ogt (Nms.ind P) (Ideal.ofBits .f32 0x3F000000#32) = 1#1 ↔ P := by
  have h : Ideal.ofBits .f32 0x3F000000#32 = ((1 / 2 : ℝ) : EReal) := by
    simp [Ideal.ofBits, Ideal.ieee]
    rw [← EReal.coe_mul]
    norm_num
  have h0 : ¬ ((1 / 2 : ℝ) : EReal) < 0 := by
    rw [← EReal.coe_zero, EReal.coe_lt_coe_iff]; norm_num
  have h1 : ((1 / 2 : ℝ) : EReal) < 1 := by
    rw [← EReal.coe_one, EReal.coe_lt_coe_iff]; norm_num
  rw [h]
  show BitVec.ofBool (decide (((1 / 2 : ℝ) : EReal) < Nms.ind P)) = 1#1 ↔ P
  by_cases hP : P
  · rw [Nms.ind_pos hP, decide_eq_true h1]
    exact iff_of_true rfl hP
  · rw [Nms.ind_neg hP, decide_eq_false h0]
    exact iff_of_false (by decide) hP

/-- The mask at a score position: the kept bit of the class-major position holding the same row. -/
theorem maskOf_at (k : Vec Ideal S40x512 .f32) (q p : IVec S20000 32) (τ σ : Fin 20000 → Fin 20000) (hσ : Function.Bijective σ)
    (hq : ∀ i, q (ix1 i) = BitVec.ofNat 32 (σ i).val) (hp : ∀ i, p (ix1 i) = BitVec.ofNat 32 (τ i).val) (P : ℕ → Prop)
    (hk : ∀ (j : Fin 40) (l : Fin 512), 512 * j.val + l.val < 20000 → k (ix2 j l) = Nms.ind (P (512 * j.val + l.val)))
    (i a : Fin 20000) (e : τ i = σ a) : maskOf k q p (ix1 i) = 1#1 ↔ P a.val := by
  have hs : Host.scatter scatter_S20000_S20000x1_S20000_n_0_0_1 (fun _ b => b)
      (broadcastInDim S20000 ![] bcast_S_S20000 (constant (F := Ideal) S_ .f32 0x00000000#32)) (wrapPos q)
      (extractStridedSlice S20000 ![0] (shapeCast S20480 k shapeCasts_S40x512_S20480) slices_S20480_S20000_0) (ix1 (σ a)) = Nms.ind (P a.val) := by
    refine (Routing.scatter_set scatter_S20000_S20000x1_S20000_n_0_0_1 rfl rfl rfl _ _ _ (fun n => if h : n < 20000 then (σ ⟨n, h⟩).val else 0)
      (fun i => ?_) (fun i => ?_) (σ a) _ (fun i hi => ?_)).1 ⟨a, ?_⟩
    · rw [dif_pos i.isLt]
      exact wrap_at q i (σ i) (hq i)
    · rw [dif_pos i.isLt]
      have := (σ i).isLt
      omega
    · rw [dif_pos i.isLt] at hi
      have : i = a := hσ.1 (Fin.ext hi)
      subst this
      have hd : 512 * (i.val / 512) + i.val % 512 = i.val := by omega
      refine (flat_at k i).trans ((hk _ _ (by show 512 * (i.val / 512) + i.val % 512 < 20000; omega)).trans ?_)
      exact Nms.ind_congr (iff_of_eq (congrArg P hd))
    · rw [dif_pos a.isLt]
  have hg := Routing.gather_take1 gather_S20000_S20000x1_S20000_n_0_n_n_0_1_1 rfl rfl rfl rfl
    (Host.scatter scatter_S20000_S20000x1_S20000_n_0_0_1 (fun _ b => b)
      (broadcastInDim S20000 ![] bcast_S_S20000 (constant (F := Ideal) S_ .f32 0x00000000#32)) (wrapPos q)
      (extractStridedSlice S20000 ![0] (shapeCast S20480 k shapeCasts_S40x512_S20480) slices_S20480_S20000_0))
    (wrapPos p) i (τ i) (wrap_at p i (τ i) (hp i)) (by norm_num)
  rw [e, ← ix1_eq_valueIdx (σ a), hs, ← ix1_eq_valueIdx i] at hg
  unfold maskOf
  generalize Host.gather gather_S20000_S20000x1_S20000_n_0_n_n_0_1_1 _ _ = G at hg ⊢
  show Ideal.cmp .ogt (G (ix1 i)) (Ideal.ofBits .f32 0x3F000000#32) = 1#1 ↔ P a.val
  rw [hg]
  exact test_ind _

/-- A printed select on a mask bit. -/
theorem select_iff {α : Type} (b : BitVec 1) (x y : α) (P : Prop) [Decidable P] (h : b = 1#1 ↔ P) : Scalar.select b x y = if P then x else y := by
  show (if b = 1#1 then x else y) = _
  by_cases hP : P
  · rw [if_pos (h.mpr hP), if_pos hP]
  · rw [if_neg (fun e => hP (h.mp e)), if_neg hP]

section Results

variable (m : (ℓ : Loc nD τ sig) → Buf (Elt Ideal) ℓ) (c : Dev nD)
  (h : Nms.Proper (bx (b0 m c)))

include h

/-- The mask: the positions the greedy rule keeps. -/
theorem outMask_at (i : Fin 20000) : outMask m c (ix1 i) = 1#1 ↔ Nms.kept (bx (b0 m c)) (sc (b1 m c)) (cl (b2 m c)) i := by
  obtain ⟨a, ha⟩ : ∃ a, srt (b1 m c) (b2 m c) a = Nms.scoreSort (sc (b1 m c)) i := sortedFrom_surjective _ _
  rw [Nms.kept_iff _ _ _ h i a ha.symm]
  unfold outMask
  refine maskOf_at (keptBlocks m c) (V m c main_v12_6) (V m c main_v2_1) (Nms.scoreSort (sc (b1 m c))) (srt (b1 m c) (b2 m c))
    ⟨sortedFrom_injective _, sortedFrom_surjective _⟩ (fun i => ?_) (fun i => ?_)
    (Nms.keepAt (Nms.onPos (srt (b1 m c) (b2 m c)) (Nms.overlaps (bx (b0 m c)) (cl (b2 m c))))) (fun j l ht => ?_) i a ha.symm
  · rw [V_v12_6, byClass_at]
    rfl
  · rw [V_v2]
    exact scoreOrder_at (b1 m c) i
  · unfold keptBlocks
    rw [V_v26, V_v29, V_v31, V_v35, V_v39, V_v41]
    exact keep_proper (b0 m c) (b1 m c) (b2 m c) h j l ht

/-- The first result. -/
theorem outIdx_at (i : Fin 20000) : outIdx m c (ix1 i) = Nms.resIdx (bx (b0 m c)) (sc (b1 m c)) (cl (b2 m c)) i := by
  classical
  have hm := outMask_at m c h i
  have e : V m c main_v2_1 (ix1 i) = BitVec.ofNat 32 (Nms.scoreSort (sc (b1 m c)) i).val := by
    rw [V_v2]; exact scoreOrder_at (b1 m c) i
  unfold outIdx Nms.resIdx
  refine (select_iff (outMask m c (ix1 i)) (V m c main_v2_1 (ix1 i)) 4294967295#32 _ hm).trans ?_
  rw [e]

/-- The second result. -/
theorem outScore_at (i : Fin 20000) : outScore m c (ix1 i) = Nms.resScore (bx (b0 m c)) (sc (b1 m c)) (cl (b2 m c)) i := by
  classical
  have hm := outMask_at m c h i
  have e : V m c main_v3 (ix1 i) = sc (b1 m c) (Nms.scoreSort (sc (b1 m c)) i) := by
    rw [V_v3]; exact scoreSorted_at (b1 m c) i
  unfold outScore Nms.resScore
  refine (select_iff (outMask m c (ix1 i)) (V m c main_v3 (ix1 i)) (Ideal.ofBits .f32 0x00000000#32) _ hm).trans ?_
  rw [e, Ideal.ofBits_zero_f32]

end Results

end Cert.Proof.KI

end
-- ==== Proof.Algebraic.lean ====
/-
  The value claim: over the extended reals, for proper boxes, the kernel and the reference end with equal results, both the
  greedy rule's kept indices and kept scores.
-/
module

public import proofs.«01_k».proof.Defs
public import proofs.«01_k».proof.Proof.Pre
public import proofs.«01_k».proof.Proof.R.Value
public import proofs.«01_k».proof.Proof.KI.Value
public import proofs.«01_k».proof.Proof.KI.StopsIdeal

@[expose] public section

noncomputable section

namespace Cert.Proof

open Idealize.ShloMosaic Idealize.ShloMosaic.TcCoe Idealize.SL.Sem

/-- Two arrays of 20000 that agree at every position. -/
theorem ext_vec {α : Type} {x y : (⟨1, ![20000]⟩ : Shape).Idx → α} (h : ∀ i : Fin 20000, x (ix1 i) = y (ix1 i)) : x = y := by
  funext j
  obtain ⟨i, rfl⟩ : ∃ i : Fin 20000, j = ix1 i := ⟨j 0, by funext a; match a with | ⟨0, _⟩ => rfl⟩
  exact h i

/-- The kernel and the reference agree on both results. -/
theorem value [hP : Cert.Pre_proper_boxes.Facts] : Cert.algebraic_KernelIdeal_ReferenceIdeal_pre_proper_boxes := by
  intro m g m' g' hpre hargs
  have hproper := fun c => Pre.proper _ _ _ (hpre c)
  have h0 : ∀ c, R.bx m' c = KI.bx (KI.b0 m c) := fun c => funext fun p => funext fun k => congrFun (hargs c).1 (ix2 p k)
  have h1 : ∀ c, R.sc m' c = KI.sc (KI.b1 m c) := fun c => funext fun p => congrFun (hargs c).2.1 (ix1 p)
  have h2 : ∀ c, R.cl m' c = KI.cl (KI.b2 m c) := fun c => funext fun p => congrFun (hargs c).2.2 (ix1 p)
  refine ⟨fun c => KI.outIdx m c, fun c => KI.outScore m c, KI.run_results m g KI.stops_ideal, ?_⟩
  refine (θ_run _ _ _).mono (fun r h c => ⟨?_, ?_, (h c Cert.ReferenceIdeal.main_arg0 rfl).trans (R.final_arg0 m' c),
    (h c Cert.ReferenceIdeal.main_arg1 rfl).trans (R.final_arg1 m' c), (h c Cert.ReferenceIdeal.main_arg2 rfl).trans (R.final_arg2 m' c)⟩) (Cert.ReferenceIdeal.Value.run_fold m' g')
  · refine (h c Cert.ReferenceIdeal.main_v21 rfl).trans (ext_vec fun i => ?_)
    refine (R.final_idx m' c i).trans ?_
    rw [h0, h1, h2]
    exact (KI.outIdx_at m c (hproper c) i).symm
  · refine (h c Cert.ReferenceIdeal.main_v29 rfl).trans (ext_vec fun i => ?_)
    refine (R.final_score m' c i).trans ?_
    rw [h0, h1, h2]
    exact (KI.outScore_at m c (hproper c) i).symm

end Cert.Proof

end
-- ==== Proof.lean ====
/-
  The certificate: the frames of the kernel at f32 words and at extended reals, the frame of the reference, the (empty) list
  of rewrites between the kernel's two texts, and the equality of the kernel's and the reference's results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.R.Frame
public import proofs.«01_k».proof.Proof.KI.Host
public import proofs.«01_k».proof.Proof.KI.StopsIdeal
public import proofs.«01_k».proof.Proof.K.Host
public import proofs.«01_k».proof.Proof.K.StopsBits
public import proofs.«01_k».proof.Proof.Algebraic

@[expose] public section

noncomputable section

namespace Cert.Proof

open Idealize.ShloMosaic

/-- The kernel's frame at f32 words: its whiles stop there, and its range ends are counts of at most 40. -/
theorem frame_K : Cert.quiescent_Kernel := fun m ρ _ => K.frame_of_facts m ρ K.stops_bits (K.endsOk m)

/-- The kernel's frame at extended reals. -/
theorem frame_KI : Cert.quiescent_KernelIdeal := fun m ρ _ => KI.frame_of_facts m ρ KI.stops_ideal (KI.endsOk m)

/-- The reference's frame. -/
theorem frame_RI : Cert.quiescent_ReferenceIdeal := fun m ρ _ => R.run_args m ρ

/-- The same two frames, asked for proper boxes only. -/
theorem frame_KI_pre [hPre : Cert.Pre_proper_boxes.Facts] : Cert.quiescent_KernelIdeal_pre_proper_boxes :=
  fun m ρ _ => KI.frame_of_facts m ρ KI.stops_ideal (KI.endsOk m)
theorem frame_RI_pre [hPre : Cert.Pre_proper_boxes.Facts] : Cert.quiescent_ReferenceIdeal_pre_proper_boxes := fun m ρ _ => R.run_args m ρ

/-- The certificate. -/
theorem claim : Cert.Claim :=
  ⟨Cert.Kernel.Gen.facts, Cert.KernelIdeal.Gen.facts, Cert.ReferenceIdeal.Gen.facts, Pre.facts, frame_K, frame_KI,
    frame_KI_pre (hPre := Pre.facts), frame_RI, frame_RI_pre (hPre := Pre.facts), trivial, value (hP := Pre.facts)⟩

end Cert.Proof

end
